-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S1 : Shape := ⟨1, ![1]⟩
abbrev S256x8192 : Shape := ⟨2, ![256, 8192]⟩
abbrev S256x4096 : Shape := ⟨2, ![256, 4096]⟩
abbrev S4x4096x256 : Shape := ⟨3, ![4, 4096, 256]⟩
abbrev S16 : Shape := ⟨1, ![16]⟩
abbrev S4x2 : Shape := ⟨2, ![4, 2]⟩
abbrev S_ : Shape := ⟨0, ![]⟩
abbrev S1x1 : Shape := ⟨2, ![1, 1]⟩
abbrev S1x2048x256 : Shape := ⟨3, ![1, 2048, 256]⟩
abbrev S2048x256 : Shape := ⟨2, ![2048, 256]⟩
abbrev S256x256 : Shape := ⟨2, ![256, 256]⟩
abbrev S1x4096x256 : Shape := ⟨3, ![1, 4096, 256]⟩

abbrev nBuf : Space → Nat
  | .hbm => 5
  | .vmem => 6
  | .smem => 2
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S4096x256, .fp8e4m3⟩
  | .local _ .vmem, ⟨3, _⟩ => ⟨S256x4096, .fp8e4m3⟩
  | .local _ .vmem, ⟨4, _⟩ => ⟨S4x4096x256, .f32⟩
  | .local _ .vmem, ⟨5, _⟩ => ⟨S4096x256, .fp8e5m2⟩
  | .local _ .smem, ⟨0, _⟩ => ⟨S1, .f32⟩
  | .local _ .smem, ⟨1, _⟩ => ⟨S1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 2 → Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_199 : BitVec 32 := 256#32
  let v257 : BitVec 32 := Scalar.muli v2 c256_i32_199
  ![0, v257.toNat]
def k0_off2 (d0 : Dev nD) (c1_i32_191 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v245 : BitVec 32 := Scalar.addi v2 c1_i32_191
  let c16_i32_192 : BitVec 32 := 16#32
  let c0_i32_193 : BitVec 32 := 0#32
  let v246 : BitVec 1 := Scalar.cmpi .eq c16_i32_192 c0_i32_193
  let c1_i32_194 : BitVec 32 := 1#32
  let v247 : BitVec 32 := Scalar.select v246 c1_i32_194 c16_i32_192
  let v248 : BitVec 32 := Scalar.remsi v245 v247
  let c0_i32_196 : BitVec 32 := 0#32
  let v250 : BitVec 1 := Scalar.cmpi .slt v248 c0_i32_196
  let c0_i32_197 : BitVec 32 := 0#32
  let v251 : BitVec 1 := Scalar.cmpi .slt v247 c0_i32_197
  let v252 : BitVec 1 := Scalar.xori v250 v251
  let c0_i32_195 : BitVec 32 := 0#32
  let v249 : BitVec 1 := Scalar.cmpi .ne v248 c0_i32_195
  let v253 : BitVec 1 := Scalar.andi v252 v249
  let v254 : BitVec 32 := Scalar.addi v248 v247
  let v255 : BitVec 32 := Scalar.select v253 v254 v248
  let c256_i32_198 : BitVec 32 := 256#32
  let v256 : BitVec 32 := Scalar.muli v255 c256_i32_198
  let c0_i32_205 : BitVec 32 := 0#32
  ![v256.toNat, 0]
def k0_dev16 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_191 : BitVec 32 := 1#32
  let v245 : BitVec 32 := Scalar.addi v2 c1_i32_191
  let c16_i32_192 : BitVec 32 := 16#32
  let c0_i32_193 : BitVec 32 := 0#32
  let v246 : BitVec 1 := Scalar.cmpi .eq c16_i32_192 c0_i32_193
  let c1_i32_194 : BitVec 32 := 1#32
  let v247 : BitVec 32 := Scalar.select v246 c1_i32_194 c16_i32_192
  let v248 : BitVec 32 := Scalar.remsi v245 v247
  let c0_i32_196 : BitVec 32 := 0#32
  let v250 : BitVec 1 := Scalar.cmpi .slt v248 c0_i32_196
  let c0_i32_197 : BitVec 32 := 0#32
  let v251 : BitVec 1 := Scalar.cmpi .slt v247 c0_i32_197
  let v252 : BitVec 1 := Scalar.xori v250 v251
  let c0_i32_195 : BitVec 32 := 0#32
  let v249 : BitVec 1 := Scalar.cmpi .ne v248 c0_i32_195
  let v253 : BitVec 1 := Scalar.andi v252 v249
  let v254 : BitVec 32 := Scalar.addi v248 v247
  let v255 : BitVec 32 := Scalar.select v253 v254 v248
  let c1_i32_202 : BitVec 32 := 1#32
  let v258 : BitVec 32 := Scalar.muli v255 c1_i32_202
  let v259 : BitVec 32 := Scalar.addi c0_i32_203 v258
  v259.toNat
def k0_dev17 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_206 : BitVec 32 := 2#32
  let v266 : BitVec 32 := Scalar.addi v2 c2_i32_206
  let c16_i32_207 : BitVec 32 := 16#32
  let c0_i32_208 : BitVec 32 := 0#32
  let v267 : BitVec 1 := Scalar.cmpi .eq c16_i32_207 c0_i32_208
  let c1_i32_209 : BitVec 32 := 1#32
  let v268 : BitVec 32 := Scalar.select v267 c1_i32_209 c16_i32_207
  let v269 : BitVec 32 := Scalar.remsi v266 v268
  let c0_i32_211 : BitVec 32 := 0#32
  let v271 : BitVec 1 := Scalar.cmpi .slt v269 c0_i32_211
  let c0_i32_212 : BitVec 32 := 0#32
  let v272 : BitVec 1 := Scalar.cmpi .slt v268 c0_i32_212
  let v273 : BitVec 1 := Scalar.xori v271 v272
  let c0_i32_210 : BitVec 32 := 0#32
  let v270 : BitVec 1 := Scalar.cmpi .ne v269 c0_i32_210
  let v274 : BitVec 1 := Scalar.andi v273 v270
  let v275 : BitVec 32 := Scalar.addi v269 v268
  let v276 : BitVec 32 := Scalar.select v274 v275 v269
  let c1_i32_217 : BitVec 32 := 1#32
  let v279 : BitVec 32 := Scalar.muli v276 c1_i32_217
  let v280 : BitVec 32 := Scalar.addi c0_i32_218 v279
  v280.toNat
def k0_dev18 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_221 : BitVec 32 := 3#32
  let v287 : BitVec 32 := Scalar.addi v2 c3_i32_221
  let c16_i32_222 : BitVec 32 := 16#32
  let c0_i32_223 : BitVec 32 := 0#32
  let v288 : BitVec 1 := Scalar.cmpi .eq c16_i32_222 c0_i32_223
  let c1_i32_224 : BitVec 32 := 1#32
  let v289 : BitVec 32 := Scalar.select v288 c1_i32_224 c16_i32_222
  let v290 : BitVec 32 := Scalar.remsi v287 v289
  let c0_i32_226 : BitVec 32 := 0#32
  let v292 : BitVec 1 := Scalar.cmpi .slt v290 c0_i32_226
  let c0_i32_227 : BitVec 32 := 0#32
  let v293 : BitVec 1 := Scalar.cmpi .slt v289 c0_i32_227
  let v294 : BitVec 1 := Scalar.xori v292 v293
  let c0_i32_225 : BitVec 32 := 0#32
  let v291 : BitVec 1 := Scalar.cmpi .ne v290 c0_i32_225
  let v295 : BitVec 1 := Scalar.andi v294 v291
  let v296 : BitVec 32 := Scalar.addi v290 v289
  let v297 : BitVec 32 := Scalar.select v295 v296 v290
  let c1_i32_232 : BitVec 32 := 1#32
  let v300 : BitVec 32 := Scalar.muli v297 c1_i32_232
  let v301 : BitVec 32 := Scalar.addi c0_i32_233 v300
  v301.toNat
def k0_dev19 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_236 : BitVec 32 := 4#32
  let v308 : BitVec 32 := Scalar.addi v2 c4_i32_236
  let c16_i32_237 : BitVec 32 := 16#32
  let c0_i32_238 : BitVec 32 := 0#32
  let v309 : BitVec 1 := Scalar.cmpi .eq c16_i32_237 c0_i32_238
  let c1_i32_239 : BitVec 32 := 1#32
  let v310 : BitVec 32 := Scalar.select v309 c1_i32_239 c16_i32_237
  let v311 : BitVec 32 := Scalar.remsi v308 v310
  let c0_i32_241 : BitVec 32 := 0#32
  let v313 : BitVec 1 := Scalar.cmpi .slt v311 c0_i32_241
  let c0_i32_242 : BitVec 32 := 0#32
  let v314 : BitVec 1 := Scalar.cmpi .slt v310 c0_i32_242
  let v315 : BitVec 1 := Scalar.xori v313 v314
  let c0_i32_240 : BitVec 32 := 0#32
  let v312 : BitVec 1 := Scalar.cmpi .ne v311 c0_i32_240
  let v316 : BitVec 1 := Scalar.andi v315 v312
  let v317 : BitVec 32 := Scalar.addi v311 v310
  let v318 : BitVec 32 := Scalar.select v316 v317 v311
  let c1_i32_247 : BitVec 32 := 1#32
  let v321 : BitVec 32 := Scalar.muli v318 c1_i32_247
  let v322 : BitVec 32 := Scalar.addi c0_i32_248 v321
  v322.toNat
def k0_dev20 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_251 : BitVec 32 := 5#32
  let v329 : BitVec 32 := Scalar.addi v2 c5_i32_251
  let c16_i32_252 : BitVec 32 := 16#32
  let c0_i32_253 : BitVec 32 := 0#32
  let v330 : BitVec 1 := Scalar.cmpi .eq c16_i32_252 c0_i32_253
  let c1_i32_254 : BitVec 32 := 1#32
  let v331 : BitVec 32 := Scalar.select v330 c1_i32_254 c16_i32_252
  let v332 : BitVec 32 := Scalar.remsi v329 v331
  let c0_i32_256 : BitVec 32 := 0#32
  let v334 : BitVec 1 := Scalar.cmpi .slt v332 c0_i32_256
  let c0_i32_257 : BitVec 32 := 0#32
  let v335 : BitVec 1 := Scalar.cmpi .slt v331 c0_i32_257
  let v336 : BitVec 1 := Scalar.xori v334 v335
  let c0_i32_255 : BitVec 32 := 0#32
  let v333 : BitVec 1 := Scalar.cmpi .ne v332 c0_i32_255
  let v337 : BitVec 1 := Scalar.andi v336 v333
  let v338 : BitVec 32 := Scalar.addi v332 v331
  let v339 : BitVec 32 := Scalar.select v337 v338 v332
  let c1_i32_262 : BitVec 32 := 1#32
  let v342 : BitVec 32 := Scalar.muli v339 c1_i32_262
  let v343 : BitVec 32 := Scalar.addi c0_i32_263 v342
  v343.toNat
def k0_dev21 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_266 : BitVec 32 := 6#32
  let v350 : BitVec 32 := Scalar.addi v2 c6_i32_266
  let c16_i32_267 : BitVec 32 := 16#32
  let c0_i32_268 : BitVec 32 := 0#32
  let v351 : BitVec 1 := Scalar.cmpi .eq c16_i32_267 c0_i32_268
  let c1_i32_269 : BitVec 32 := 1#32
  let v352 : BitVec 32 := Scalar.select v351 c1_i32_269 c16_i32_267
  let v353 : BitVec 32 := Scalar.remsi v350 v352
  let c0_i32_271 : BitVec 32 := 0#32
  let v355 : BitVec 1 := Scalar.cmpi .slt v353 c0_i32_271
  let c0_i32_272 : BitVec 32 := 0#32
  let v356 : BitVec 1 := Scalar.cmpi .slt v352 c0_i32_272
  let v357 : BitVec 1 := Scalar.xori v355 v356
  let c0_i32_270 : BitVec 32 := 0#32
  let v354 : BitVec 1 := Scalar.cmpi .ne v353 c0_i32_270
  let v358 : BitVec 1 := Scalar.andi v357 v354
  let v359 : BitVec 32 := Scalar.addi v353 v352
  let v360 : BitVec 32 := Scalar.select v358 v359 v353
  let c1_i32_277 : BitVec 32 := 1#32
  let v363 : BitVec 32 := Scalar.muli v360 c1_i32_277
  let v364 : BitVec 32 := Scalar.addi c0_i32_278 v363
  v364.toNat
def k0_dev22 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_281 : BitVec 32 := 7#32
  let v371 : BitVec 32 := Scalar.addi v2 c7_i32_281
  let c16_i32_282 : BitVec 32 := 16#32
  let c0_i32_283 : BitVec 32 := 0#32
  let v372 : BitVec 1 := Scalar.cmpi .eq c16_i32_282 c0_i32_283
  let c1_i32_284 : BitVec 32 := 1#32
  let v373 : BitVec 32 := Scalar.select v372 c1_i32_284 c16_i32_282
  let v374 : BitVec 32 := Scalar.remsi v371 v373
  let c0_i32_286 : BitVec 32 := 0#32
  let v376 : BitVec 1 := Scalar.cmpi .slt v374 c0_i32_286
  let c0_i32_287 : BitVec 32 := 0#32
  let v377 : BitVec 1 := Scalar.cmpi .slt v373 c0_i32_287
  let v378 : BitVec 1 := Scalar.xori v376 v377
  let c0_i32_285 : BitVec 32 := 0#32
  let v375 : BitVec 1 := Scalar.cmpi .ne v374 c0_i32_285
  let v379 : BitVec 1 := Scalar.andi v378 v375
  let v380 : BitVec 32 := Scalar.addi v374 v373
  let v381 : BitVec 32 := Scalar.select v379 v380 v374
  let c1_i32_292 : BitVec 32 := 1#32
  let v384 : BitVec 32 := Scalar.muli v381 c1_i32_292
  let v385 : BitVec 32 := Scalar.addi c0_i32_293 v384
  v385.toNat
def k0_dev23 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_296 : BitVec 32 := 8#32
  let v392 : BitVec 32 := Scalar.addi v2 c8_i32_296
  let c16_i32_297 : BitVec 32 := 16#32
  let c0_i32_298 : BitVec 32 := 0#32
  let v393 : BitVec 1 := Scalar.cmpi .eq c16_i32_297 c0_i32_298
  let c1_i32_299 : BitVec 32 := 1#32
  let v394 : BitVec 32 := Scalar.select v393 c1_i32_299 c16_i32_297
  let v395 : BitVec 32 := Scalar.remsi v392 v394
  let c0_i32_301 : BitVec 32 := 0#32
  let v397 : BitVec 1 := Scalar.cmpi .slt v395 c0_i32_301
  let c0_i32_302 : BitVec 32 := 0#32
  let v398 : BitVec 1 := Scalar.cmpi .slt v394 c0_i32_302
  let v399 : BitVec 1 := Scalar.xori v397 v398
  let c0_i32_300 : BitVec 32 := 0#32
  let v396 : BitVec 1 := Scalar.cmpi .ne v395 c0_i32_300
  let v400 : BitVec 1 := Scalar.andi v399 v396
  let v401 : BitVec 32 := Scalar.addi v395 v394
  let v402 : BitVec 32 := Scalar.select v400 v401 v395
  let c1_i32_307 : BitVec 32 := 1#32
  let v405 : BitVec 32 := Scalar.muli v402 c1_i32_307
  let v406 : BitVec 32 := Scalar.addi c0_i32_308 v405
  v406.toNat
def k0_dev24 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_311 : BitVec 32 := 9#32
  let v413 : BitVec 32 := Scalar.addi v2 c9_i32_311
  let c16_i32_312 : BitVec 32 := 16#32
  let c0_i32_313 : BitVec 32 := 0#32
  let v414 : BitVec 1 := Scalar.cmpi .eq c16_i32_312 c0_i32_313
  let c1_i32_314 : BitVec 32 := 1#32
  let v415 : BitVec 32 := Scalar.select v414 c1_i32_314 c16_i32_312
  let v416 : BitVec 32 := Scalar.remsi v413 v415
  let c0_i32_316 : BitVec 32 := 0#32
  let v418 : BitVec 1 := Scalar.cmpi .slt v416 c0_i32_316
  let c0_i32_317 : BitVec 32 := 0#32
  let v419 : BitVec 1 := Scalar.cmpi .slt v415 c0_i32_317
  let v420 : BitVec 1 := Scalar.xori v418 v419
  let c0_i32_315 : BitVec 32 := 0#32
  let v417 : BitVec 1 := Scalar.cmpi .ne v416 c0_i32_315
  let v421 : BitVec 1 := Scalar.andi v420 v417
  let v422 : BitVec 32 := Scalar.addi v416 v415
  let v423 : BitVec 32 := Scalar.select v421 v422 v416
  let c1_i32_322 : BitVec 32 := 1#32
  let v426 : BitVec 32 := Scalar.muli v423 c1_i32_322
  let v427 : BitVec 32 := Scalar.addi c0_i32_323 v426
  v427.toNat
def k0_dev25 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_326 : BitVec 32 := 10#32
  let v434 : BitVec 32 := Scalar.addi v2 c10_i32_326
  let c16_i32_327 : BitVec 32 := 16#32
  let c0_i32_328 : BitVec 32 := 0#32
  let v435 : BitVec 1 := Scalar.cmpi .eq c16_i32_327 c0_i32_328
  let c1_i32_329 : BitVec 32 := 1#32
  let v436 : BitVec 32 := Scalar.select v435 c1_i32_329 c16_i32_327
  let v437 : BitVec 32 := Scalar.remsi v434 v436
  let c0_i32_331 : BitVec 32 := 0#32
  let v439 : BitVec 1 := Scalar.cmpi .slt v437 c0_i32_331
  let c0_i32_332 : BitVec 32 := 0#32
  let v440 : BitVec 1 := Scalar.cmpi .slt v436 c0_i32_332
  let v441 : BitVec 1 := Scalar.xori v439 v440
  let c0_i32_330 : BitVec 32 := 0#32
  let v438 : BitVec 1 := Scalar.cmpi .ne v437 c0_i32_330
  let v442 : BitVec 1 := Scalar.andi v441 v438
  let v443 : BitVec 32 := Scalar.addi v437 v436
  let v444 : BitVec 32 := Scalar.select v442 v443 v437
  let c1_i32_337 : BitVec 32 := 1#32
  let v447 : BitVec 32 := Scalar.muli v444 c1_i32_337
  let v448 : BitVec 32 := Scalar.addi c0_i32_338 v447
  v448.toNat
def k0_dev26 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_341 : BitVec 32 := 11#32
  let v455 : BitVec 32 := Scalar.addi v2 c11_i32_341
  let c16_i32_342 : BitVec 32 := 16#32
  let c0_i32_343 : BitVec 32 := 0#32
  let v456 : BitVec 1 := Scalar.cmpi .eq c16_i32_342 c0_i32_343
  let c1_i32_344 : BitVec 32 := 1#32
  let v457 : BitVec 32 := Scalar.select v456 c1_i32_344 c16_i32_342
  let v458 : BitVec 32 := Scalar.remsi v455 v457
  let c0_i32_346 : BitVec 32 := 0#32
  let v460 : BitVec 1 := Scalar.cmpi .slt v458 c0_i32_346
  let c0_i32_347 : BitVec 32 := 0#32
  let v461 : BitVec 1 := Scalar.cmpi .slt v457 c0_i32_347
  let v462 : BitVec 1 := Scalar.xori v460 v461
  let c0_i32_345 : BitVec 32 := 0#32
  let v459 : BitVec 1 := Scalar.cmpi .ne v458 c0_i32_345
  let v463 : BitVec 1 := Scalar.andi v462 v459
  let v464 : BitVec 32 := Scalar.addi v458 v457
  let v465 : BitVec 32 := Scalar.select v463 v464 v458
  let c1_i32_352 : BitVec 32 := 1#32
  let v468 : BitVec 32 := Scalar.muli v465 c1_i32_352
  let v469 : BitVec 32 := Scalar.addi c0_i32_353 v468
  v469.toNat
def k0_dev27 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_356 : BitVec 32 := 12#32
  let v476 : BitVec 32 := Scalar.addi v2 c12_i32_356
  let c16_i32_357 : BitVec 32 := 16#32
  let c0_i32_358 : BitVec 32 := 0#32
  let v477 : BitVec 1 := Scalar.cmpi .eq c16_i32_357 c0_i32_358
  let c1_i32_359 : BitVec 32 := 1#32
  let v478 : BitVec 32 := Scalar.select v477 c1_i32_359 c16_i32_357
  let v479 : BitVec 32 := Scalar.remsi v476 v478
  let c0_i32_361 : BitVec 32 := 0#32
  let v481 : BitVec 1 := Scalar.cmpi .slt v479 c0_i32_361
  let c0_i32_362 : BitVec 32 := 0#32
  let v482 : BitVec 1 := Scalar.cmpi .slt v478 c0_i32_362
  let v483 : BitVec 1 := Scalar.xori v481 v482
  let c0_i32_360 : BitVec 32 := 0#32
  let v480 : BitVec 1 := Scalar.cmpi .ne v479 c0_i32_360
  let v484 : BitVec 1 := Scalar.andi v483 v480
  let v485 : BitVec 32 := Scalar.addi v479 v478
  let v486 : BitVec 32 := Scalar.select v484 v485 v479
  let c1_i32_367 : BitVec 32 := 1#32
  let v489 : BitVec 32 := Scalar.muli v486 c1_i32_367
  let v490 : BitVec 32 := Scalar.addi c0_i32_368 v489
  v490.toNat
def k0_dev28 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_371 : BitVec 32 := 13#32
  let v497 : BitVec 32 := Scalar.addi v2 c13_i32_371
  let c16_i32_372 : BitVec 32 := 16#32
  let c0_i32_373 : BitVec 32 := 0#32
  let v498 : BitVec 1 := Scalar.cmpi .eq c16_i32_372 c0_i32_373
  let c1_i32_374 : BitVec 32 := 1#32
  let v499 : BitVec 32 := Scalar.select v498 c1_i32_374 c16_i32_372
  let v500 : BitVec 32 := Scalar.remsi v497 v499
  let c0_i32_376 : BitVec 32 := 0#32
  let v502 : BitVec 1 := Scalar.cmpi .slt v500 c0_i32_376
  let c0_i32_377 : BitVec 32 := 0#32
  let v503 : BitVec 1 := Scalar.cmpi .slt v499 c0_i32_377
  let v504 : BitVec 1 := Scalar.xori v502 v503
  let c0_i32_375 : BitVec 32 := 0#32
  let v501 : BitVec 1 := Scalar.cmpi .ne v500 c0_i32_375
  let v505 : BitVec 1 := Scalar.andi v504 v501
  let v506 : BitVec 32 := Scalar.addi v500 v499
  let v507 : BitVec 32 := Scalar.select v505 v506 v500
  let c1_i32_382 : BitVec 32 := 1#32
  let v510 : BitVec 32 := Scalar.muli v507 c1_i32_382
  let v511 : BitVec 32 := Scalar.addi c0_i32_383 v510
  v511.toNat
def k0_dev29 (d0 : Dev nD) : Nat :=
  let c0_i32_398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_386 : BitVec 32 := 14#32
  let v518 : BitVec 32 := Scalar.addi v2 c14_i32_386
  let c16_i32_387 : BitVec 32 := 16#32
  let c0_i32_388 : BitVec 32 := 0#32
  let v519 : BitVec 1 := Scalar.cmpi .eq c16_i32_387 c0_i32_388
  let c1_i32_389 : BitVec 32 := 1#32
  let v520 : BitVec 32 := Scalar.select v519 c1_i32_389 c16_i32_387
  let v521 : BitVec 32 := Scalar.remsi v518 v520
  let c0_i32_391 : BitVec 32 := 0#32
  let v523 : BitVec 1 := Scalar.cmpi .slt v521 c0_i32_391
  let c0_i32_392 : BitVec 32 := 0#32
  let v524 : BitVec 1 := Scalar.cmpi .slt v520 c0_i32_392
  let v525 : BitVec 1 := Scalar.xori v523 v524
  let c0_i32_390 : BitVec 32 := 0#32
  let v522 : BitVec 1 := Scalar.cmpi .ne v521 c0_i32_390
  let v526 : BitVec 1 := Scalar.andi v525 v522
  let v527 : BitVec 32 := Scalar.addi v521 v520
  let v528 : BitVec 32 := Scalar.select v526 v527 v521
  let c1_i32_397 : BitVec 32 := 1#32
  let v531 : BitVec 32 := Scalar.muli v528 c1_i32_397
  let v532 : BitVec 32 := Scalar.addi c0_i32_398 v531
  v532.toNat
def k0_dev30 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_401 : BitVec 32 := 15#32
  let v539 : BitVec 32 := Scalar.addi v2 c15_i32_401
  let c16_i32_402 : BitVec 32 := 16#32
  let c0_i32_403 : BitVec 32 := 0#32
  let v540 : BitVec 1 := Scalar.cmpi .eq c16_i32_402 c0_i32_403
  let c1_i32_404 : BitVec 32 := 1#32
  let v541 : BitVec 32 := Scalar.select v540 c1_i32_404 c16_i32_402
  let v542 : BitVec 32 := Scalar.remsi v539 v541
  let c0_i32_406 : BitVec 32 := 0#32
  let v544 : BitVec 1 := Scalar.cmpi .slt v542 c0_i32_406
  let c0_i32_407 : BitVec 32 := 0#32
  let v545 : BitVec 1 := Scalar.cmpi .slt v541 c0_i32_407
  let v546 : BitVec 1 := Scalar.xori v544 v545
  let c0_i32_405 : BitVec 32 := 0#32
  let v543 : BitVec 1 := Scalar.cmpi .ne v542 c0_i32_405
  let v547 : BitVec 1 := Scalar.andi v546 v543
  let v548 : BitVec 32 := Scalar.addi v542 v541
  let v549 : BitVec 32 := Scalar.select v547 v548 v542
  let c1_i32_412 : BitVec 32 := 1#32
  let v552 : BitVec 32 := Scalar.muli v549 c1_i32_412
  let v553 : BitVec 32 := Scalar.addi c0_i32_413 v552
  v553.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_416 : BitVec 32 := 256#32
  let v560 : BitVec 32 := Scalar.muli v2 c256_i32_416
  let v561 : Index := Scalar.indexCast v560
  let c0_417 : Index := 0#32
  ![v561.toNat, 0]
def k0_off4 (d0 : Dev nD) : Fin 2 → Nat :=
  let c0_419 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_418 : BitVec 32 := 256#32
  let v563 : BitVec 32 := Scalar.muli v2 c256_i32_418
  let v564 : Index := Scalar.indexCast v563
  ![0, v564.toNat]
def k0_off5 (d0 : Dev nD) (c1_i32_420 : BitVec 32) : Fin 2 → Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v568 : BitVec 32 := Scalar.subi v2 c1_i32_420
  let c16_i32_421 : BitVec 32 := 16#32
  let c0_i32_422 : BitVec 32 := 0#32
  let v569 : BitVec 1 := Scalar.cmpi .eq c16_i32_421 c0_i32_422
  let c1_i32_423 : BitVec 32 := 1#32
  let v570 : BitVec 32 := Scalar.select v569 c1_i32_423 c16_i32_421
  let v571 : BitVec 32 := Scalar.remsi v568 v570
  let c0_i32_425 : BitVec 32 := 0#32
  let v573 : BitVec 1 := Scalar.cmpi .slt v571 c0_i32_425
  let c0_i32_426 : BitVec 32 := 0#32
  let v574 : BitVec 1 := Scalar.cmpi .slt v570 c0_i32_426
  let v575 : BitVec 1 := Scalar.xori v573 v574
  let c0_i32_424 : BitVec 32 := 0#32
  let v572 : BitVec 1 := Scalar.cmpi .ne v571 c0_i32_424
  let v576 : BitVec 1 := Scalar.andi v575 v572
  let v577 : BitVec 32 := Scalar.addi v571 v570
  let v578 : BitVec 32 := Scalar.select v576 v577 v571
  let c256_i32_428 : BitVec 32 := 256#32
  let v580 : BitVec 32 := Scalar.muli v578 c256_i32_428
  ![0, v580.toNat]
def k0_off6 (d0 : Dev nD) (c1_i32_420 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v568 : BitVec 32 := Scalar.subi v2 c1_i32_420
  let c16_i32_421 : BitVec 32 := 16#32
  let c0_i32_422 : BitVec 32 := 0#32
  let v569 : BitVec 1 := Scalar.cmpi .eq c16_i32_421 c0_i32_422
  let c1_i32_423 : BitVec 32 := 1#32
  let v570 : BitVec 32 := Scalar.select v569 c1_i32_423 c16_i32_421
  let v571 : BitVec 32 := Scalar.remsi v568 v570
  let c0_i32_425 : BitVec 32 := 0#32
  let v573 : BitVec 1 := Scalar.cmpi .slt v571 c0_i32_425
  let c0_i32_426 : BitVec 32 := 0#32
  let v574 : BitVec 1 := Scalar.cmpi .slt v570 c0_i32_426
  let v575 : BitVec 1 := Scalar.xori v573 v574
  let c0_i32_424 : BitVec 32 := 0#32
  let v572 : BitVec 1 := Scalar.cmpi .ne v571 c0_i32_424
  let v576 : BitVec 1 := Scalar.andi v575 v572
  let v577 : BitVec 32 := Scalar.addi v571 v570
  let v578 : BitVec 32 := Scalar.select v576 v577 v571
  let c256_i32_427 : BitVec 32 := 256#32
  let v579 : BitVec 32 := Scalar.muli v578 c256_i32_427
  let c0_i32_441 : BitVec 32 := 0#32
  ![v579.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Same.lean ====
/-
  The kernel and its reading over the reals are one text, so their body tables are the same: what runs in one runs in the
  other.
-/
module

public import proofs.«01_k».proof.Proof.Gen.Kernel
public import proofs.«01_k».proof.Proof.Gen.KernelIdeal

@[expose] public section

set_option maxRecDepth 100000
set_option maxHeartbeats 4000000

noncomputable section

namespace Cert.AllToAll

open Idealize.ShloMosaic

variable {F : FTy → Type} [FloatOps F]

theorem body_same : Cert.Kernel.cc0_body (F := F) = Cert.KernelIdeal.cc0_body (F := F) := rfl

theorem bodies_same : Cert.Kernel.defs₀ (F := F) = Cert.KernelIdeal.defs₀ (F := F) := by
  refine congrArg Defs.onTc (funext fun ℓ => ?_)
  match ℓ with
  | 0 =>
    funext a
    obtain ⟨t, s⟩ := a
    show Cert.Kernel.cc0_body (F := F) _ _ _ _ _ _ _ _ _ _ _ _ _ _ _ _ _ _ _ _ _ = _
    rw [body_same]

theorem table_same : Cert.Kernel.defs (F := F) = Cert.KernelIdeal.defs (F := F) :=
  congrArg (Pipeline.defs (Cert.KernelIdeal.pcfgs (F := F))) bodies_same

theorem main_same : Cert.Kernel.main (F := F) = Cert.KernelIdeal.main (F := F) := rfl

end Cert.AllToAll

end
-- ==== Proof.Steps.lean ====
/-
  The kernel's body as a list of steps. The printed body is straight-line text: fifteen barrier signals, one barrier
  wait, the first four weight blocks' copies, the cast of `x`, fifteen copies to the other devices, the device's own
  block, fifteen receive waits, thirty-two column chunks, fifteen send waits. Here each of those repeated pieces is one
  definition with its number as an argument, and `body_eq` says that the printed body is their sequence.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.AllToAll

open Cert.KernelIdeal Cert.KernelIdeal.Gen
open Idealize.ShloMosaic Idealize.ShloMosaic.TcCoe Idealize.SL.Sem

variable {F : FTy → Type} [FloatOps F]

/-- A program of the kernel's effects that returns nothing. -/
abbrev Act (F : FTy → Type) [FloatOps F] : Type 1 := Prog (TpuEff nD τ sig (Elt F) Λ₀ .tc) PUnit

/-- `f i`, `f (i+1)`, …, `k` of them. -/
def steps {n : ℕ} (f : Fin n → Act F) : (k i : ℕ) → i + k = n → Act F
  | 0, _, _ => .ret ⟨⟩
  | k + 1, i, h => (f ⟨i, by omega⟩).bind fun _ => steps f k (i + 1) (by omega)

/-! ## The buffers -/

/-- The device's columns of `x`, staged. -/
abbrev xM : Memref sig .tc .vmem S4096x256 .f32 := Memref.whole cc0_stg0_0
/-- The weights, left in HBM. -/
abbrev wM : Memref sig .tc .hbm S4096x8192 .f32 := Memref.whole main_arg1
/-- The two scales. -/
abbrev sxM : Memref sig .tc .smem S1 .f32 := Memref.whole cc0_stg1_0
abbrev swM : Memref sig .tc .smem S1 .f32 := Memref.whole cc0_stg2_0
/-- The result's staging buffer. -/
abbrev oM : Memref sig .tc .vmem S256x8192 .f32 := Memref.whole cc0_stg3_0
/-- The cast of the device's columns of `x`. -/
abbrev eM : Memref sig .tc .vmem S4096x256 .fp8e4m3 := Memref.whole cc0_scratch0
/-- The gathered rows of `x`. -/
abbrev gM : Memref sig .tc .vmem S256x4096 .fp8e4m3 := Memref.whole cc0_scratch1
/-- The four slots of weight blocks. -/
abbrev bM : Memref sig .tc .vmem S4x4096x256 .f32 := Memref.whole cc0_scratch2
/-- The cast of one weight block. -/
abbrev vM : Memref sig .tc .vmem S4096x256 .fp8e5m2 := Memref.whole cc0_scratch3

/-! ## The barrier -/

/-- The barrier semaphore. -/
abbrev barS : Sem sig := (SemArray.scalar (sig.barrier 0 rfl) : Sems sig S_).sem

/-- The device that signal number `i` names, as the kernel computes it. -/
def sigDev (c : Dev nD) (i : Fin 15) : Dev nD :=
  (![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩] :
    Fin 15 → Dev nD) i

/-- Tell another device that this one has entered. -/
def signal (c : Dev nD) (i : Fin 15) : Act F := semSignalWord (sigDev c i) barS 1#32

/-! ## The copies between devices -/

theorem inb16 (i : Fin 15) : ∀ a, (![i.val + 1] : Fin 1 → Nat) a + S1.size a ≤ S16.size a := by
  intro a; fin_cases a; have := i.isLt; show i.val + 1 + 1 ≤ 16; omega

/-- The send and receive semaphores of copy number `i`. -/
abbrev sendS (i : Fin 15) : DmaSem sig := ((cc0_scratch4.slice (Rect.unit (s := S16) ![i.val + 1] S1.size (inb16 i))).squeeze S_ squeezes_S1_S_).sem
abbrev recvS (i : Fin 15) : DmaSem sig := ((cc0_scratch5.slice (Rect.unit (s := S16) ![i.val + 1] S1.size (inb16 i))).squeeze S_ squeezes_S1_S_).sem

/-- The device that copy number `i` goes to, as the kernel computes it. -/
def sendDev (c : Dev nD) (i : Fin 15) : Dev nD :=
  (![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩,
    ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩] :
    Fin 15 → Dev nD) i

abbrev wd (i : Fin 15) : BitVec 32 := BitVec.ofNat 32 (1 + i.val)

/-- Where device `c`'s block lands in any device's gathered rows; -/
abbrev gMine (c : Dev nD) : Memref sig .tc .vmem S256x256 .fp8e4m3 :=
  gM.slice (Rect.unit (s := S256x4096) (k0_off1 c) S256x256.size (k0_off1_inb c)) (fun _ => rfl)
/-- the rows of its cast columns that copy number `i` sends; -/
abbrev eOut (c : Dev nD) (i : Fin 15) : Memref sig .tc .vmem S256x256 .fp8e4m3 :=
  eM.slice (Rect.unit (s := S4096x256) (k0_off2 c (wd i)) S256x256.size (k0_off2_inb c i)) (fun _ => rfl)
/-- where the block that receive wait number `i` waits for lands; -/
abbrev gIn (c : Dev nD) (i : Fin 15) : Memref sig .tc .vmem S256x256 .fp8e4m3 :=
  gM.slice (Rect.unit (s := S256x4096) (k0_off5 c (wd i)) S256x256.size (k0_off5_inb c i)) (fun _ => rfl)
/-- and the source that wait names. -/
abbrev eIn (c : Dev nD) (i : Fin 15) : Memref sig .tc .vmem S256x256 .fp8e4m3 :=
  eM.slice (Rect.unit (s := S4096x256) (k0_off6 c (wd i)) S256x256.size (k0_off6_inb c i)) (fun _ => rfl)

abbrev hE : (eM : Memref sig .tc .vmem S4096x256 .fp8e4m3).IsWhole := Memref.isWhole_whole _
abbrev hG : (gM : Memref sig .tc .vmem S256x4096 .fp8e4m3).IsWhole := Memref.isWhole_whole _
abbrev hV : (vM : Memref sig .tc .vmem S4096x256 .fp8e5m2).IsWhole := Memref.isWhole_whole _

theorem gMine_exact (c : Dev nD) : (gMine c).view.WordExact := hG.wordExact_slice rfl _ (k0_off1_wordsfp8e4m3 c)
theorem eOut_exact (c : Dev nD) (i : Fin 15) : (eOut c i).view.WordExact := hE.wordExact_slice rfl _ (k0_off2_wordsfp8e4m3 c i)
theorem gIn_exact (c : Dev nD) (i : Fin 15) : (gIn c i).view.WordExact := hG.wordExact_slice rfl _ (k0_off5_wordsfp8e4m3 c i)
theorem eIn_exact (c : Dev nD) (i : Fin 15) : (eIn c i).view.WordExact := hE.wordExact_slice rfl _ (k0_off6_wordsfp8e4m3 c i)

/-- Copy number `i`. -/
def send (c : Dev nD) (i : Fin 15) : Act F :=
  Prog.lift (.enqueueDma (eOut c i) (.remote (Dev.tc (sendDev c i)) (gMine c) (.dma (sendS i))) (.dma (recvS i)) (eOut_exact c i) (gMine_exact c)
    ⟨⟨rfl, Or.inl rfl⟩, trivial⟩)
/-- Receive wait number `i`. -/
def recv (c : Dev nD) (i : Fin 15) : Act F := Prog.lift (.waitDma2 (recvS i) (eIn c i) (gIn c i) (eIn_exact c i) (gIn_exact c i))
/-- Send wait number `i`. -/
def drain (c : Dev nD) (i : Fin 15) : Act F := Prog.lift (.waitDma2 (sendS i) (gMine c) (eOut c i) (gMine_exact c) (eOut_exact c i))

abbrev rE : Rect S4096x256 := Rect.unit (s := S4096x256) ![0, 0] S4096x256.size inb_S4096x256_S4096x256_0_0
abbrev rOwnE (c : Dev nD) : Rect S4096x256 := Rect.unit (s := S4096x256) (k0_off3 c) S256x256.size (k0_off3_inb c)
abbrev rOwnG (c : Dev nD) : Rect S256x4096 := Rect.unit (s := S256x4096) (k0_off4 c) S256x256.size (k0_off4_inb c)
abbrev rG : Rect S256x4096 := Rect.unit (s := S256x4096) ![0, 0] S256x4096.size inb_S256x4096_S256x4096_0_0

/-- The cast of the device's columns of `x`. -/
def castX : Act F := do
  let x : Vec F S4096x256 .f32 ← Prog.lift (.load xM rE.toLoadRect (View.loadsAt_vmem h_S4096x256))
  let _ : Vec F S4096x256 .fp8e4m3 ← Prog.lift (.load eM rE.toLoadRect (View.loadsAt_vmem h_S4096x256))
  Prog.lift (.store eM rE (k0_pay2 (k0_pay1 x)) Finset.univ
    (View.stores_vmem h_S4096x256 (hE.storeExact_slice rfl _ packedfp8e4m3_S4096x256_S4096x256_0_0) (fun _ => rfl)) (.inl rfl))

/-- The device's own block, moved by a load and a store. -/
def ownBlock (c : Dev nD) : Act F := do
  let v : Vec F S256x256 .fp8e4m3 ← Prog.lift (.load eM (rOwnE c).toLoadRect (View.loadsAt_vmem h_S256x256))
  let _ : Vec F S256x256 .fp8e4m3 ← Prog.lift (.load gM (rOwnG c).toLoadRect (View.loadsAt_vmem h_S256x256))
  Prog.lift (.store gM (rOwnG c) (k0_pay3 v) Finset.univ
    (View.stores_vmem h_S256x256 (hG.storeExact_slice rfl _ (k0_off4_packedfp8e4m3 c)) (fun _ => rfl)) (.inl rfl))

/-! ## The column chunks -/

theorem inbSem (k : Fin 32) (r : Fin 2) : ∀ a, (![k.val % 4, r.val] : Fin 2 → Nat) a + S1x1.size a ≤ S4x2.size a := by
  intro a
  have := r.isLt
  have := Nat.mod_lt k.val (show 0 < 4 by decide)
  fin_cases a
  · show k.val % 4 + 1 ≤ 4; omega
  · show r.val + 1 ≤ 2; omega
theorem inbSlot (k : Fin 32) (r : Fin 2) : ∀ a, (![k.val % 4, 2048 * r.val, 0] : Fin 3 → Nat) a + S1x2048x256.size a ≤ S4x4096x256.size a := by
  intro a
  have := r.isLt
  have := Nat.mod_lt k.val (show 0 < 4 by decide)
  fin_cases a
  · show k.val % 4 + 1 ≤ 4; omega
  · show 2048 * r.val + 2048 ≤ 4096; omega
  · show 0 + 256 ≤ 256; omega
theorem inbW (k : Fin 32) (r : Fin 2) : ∀ a, (![2048 * r.val, 256 * k.val] : Fin 2 → Nat) a + S2048x256.size a ≤ S4096x8192.size a := by
  intro a
  have := r.isLt
  have := k.isLt
  fin_cases a
  · show 2048 * r.val + 2048 ≤ 4096; omega
  · show 256 * k.val + 256 ≤ 8192; omega
theorem inbWhole (k : Fin 32) : ∀ a, (![k.val % 4, 0, 0] : Fin 3 → Nat) a + S1x4096x256.size a ≤ S4x4096x256.size a := by
  intro a
  have := Nat.mod_lt k.val (show 0 < 4 by decide)
  fin_cases a
  · show k.val % 4 + 1 ≤ 4; omega
  · show 0 + 4096 ≤ 4096; omega
  · show 0 + 256 ≤ 256; omega
theorem inbO (k : Fin 32) : ∀ a, (![0, 256 * k.val] : Fin 2 → Nat) a + S256x256.size a ≤ S256x8192.size a := by
  intro a
  have := k.isLt
  fin_cases a
  · show 0 + 256 ≤ 256; omega
  · show 256 * k.val + 256 ≤ 8192; omega

/-- The semaphore of half `r` of chunk `k`'s weight block; -/
abbrev wS (k : Fin 32) (r : Fin 2) : DmaSem sig := ((cc0_scratch6.slice (Rect.unit (s := S4x2) ![k.val % 4, r.val] S1x1.size (inbSem k r))).squeeze S_ squeezes_S1x1_S_).sem
/-- where that half lands; -/
abbrev bHalf (k : Fin 32) (r : Fin 2) : Memref sig .tc .vmem S2048x256 .f32 :=
  (bM.slice (Rect.unit (s := S4x4096x256) ![k.val % 4, 2048 * r.val, 0] S1x2048x256.size (inbSlot k r)) (fun _ => rfl)).squeeze S2048x256 squeezes_S1x2048x256_S2048x256
/-- where it comes from. -/
abbrev wHalf (k : Fin 32) (r : Fin 2) : Memref sig .tc .hbm S2048x256 .f32 :=
  wM.slice (Rect.unit (s := S4096x8192) ![2048 * r.val, 256 * k.val] S2048x256.size (inbW k r)) (fun _ => rfl)
abbrev rSlot (k : Fin 32) : Rect S4x4096x256 := Rect.unit (s := S4x4096x256) ![k.val % 4, 0, 0] S1x4096x256.size (inbWhole k)
abbrev rO (k : Fin 32) : Rect S256x8192 := Rect.unit (s := S256x8192) ![0, 256 * k.val] S256x256.size (inbO k)

theorem bHalf_exact (k : Fin 32) (r : Fin 2) : (bHalf k r).view.WordExact := (View.wordExact_bits rfl).reshape _ _
theorem wHalf_exact (k : Fin 32) (r : Fin 2) : (wHalf k r).view.WordExact := View.wordExact_bits rfl

/-- Start the copy of half `r` of chunk `k`'s weight block. -/
def fetch (k : Fin 32) (r : Fin 2) : Act F :=
  Prog.lift (.enqueueDma (wHalf k r) (.here (bHalf k r)) (.dma (wS k r)) (wHalf_exact k r) (bHalf_exact k r) ⟨Or.inl rfl, trivial⟩)
/-- Wait for it. -/
def arrive (k : Fin 32) (r : Fin 2) : Act F := Prog.lift (.waitDma2 (wS k r) (wHalf k r) (bHalf k r) (wHalf_exact k r) (bHalf_exact k r))

/-- Both halves. -/
def fetches (k : Fin 32) : Act F := (fetch k 0).bind fun _ => fetch k 1

/-- The copies that chunk `k` starts: those of the chunk four further on. -/
def ahead (k : Fin 32) : Act F := if h : k.val + 4 < 32 then fetches ⟨k.val + 4, h⟩ else .ret ⟨⟩

/-- The cast of chunk `k`'s weight block. -/
def castW (k : Fin 32) : Act F := do
  let w : Vec F S1x4096x256 .f32 ← Prog.lift (.load bM (rSlot k).toLoadRect (View.loadsAt_vmem h_S1x4096x256))
  let _ : Vec F S4096x256 .fp8e5m2 ← Prog.lift (.load vM rE.toLoadRect (View.loadsAt_vmem h_S4096x256))
  Prog.lift (.store vM rE (k0_pay5 w) Finset.univ
    (View.stores_vmem h_S4096x256 (hV.storeExact_slice rfl _ packedfp8e5m2_S4096x256_S4096x256_0_0) (fun _ => rfl)) (.inl rfl))

/-- The product of the gathered rows and the cast weight block, scaled, stored as columns of the result. -/
def product (s : F .f32) (k : Fin 32) : Act F := do
  let x : Vec F S256x4096 .fp8e4m3 ← Prog.lift (.load gM rG.toLoadRect (View.loadsAt_vmem h_S256x4096))
  let w : Vec F S4096x256 .fp8e5m2 ← Prog.lift (.load vM rE.toLoadRect (View.loadsAt_vmem h_S4096x256))
  let _ : Vec F S256x256 .f32 ← Prog.lift (.load oM (rO k).toLoadRect (View.loadsAt_vmem h_S256x256))
  Prog.lift (.store oM (rO k) (k0_pay6 s x w) Finset.univ (View.stores_vmem_bits_univ h_S256x256 rfl) (.inl rfl))

/-- Chunk `k`. -/
def chunk (s : F .f32) (k : Fin 32) : Act F :=
  (arrive k 0).bind fun _ => (arrive k 1).bind fun _ => (castW k).bind fun _ => (ahead k).bind fun _ => product s k

/-! ## The whole body -/

def early (i : Fin 4) : Fin 32 := ⟨i.val, by omega⟩

/-- The body, after the device has read its id. -/
def bodyAt (c : Dev nD) : Act F :=
  (steps (signal c) 15 0 rfl).bind fun _ => (semWaitWord barS 15#32).bind fun _ =>
  (steps (fun i : Fin 4 => fetches (early i)) 4 0 rfl).bind fun _ => castX.bind fun _ =>
  (steps (send c) 15 0 rfl).bind fun _ => (ownBlock c).bind fun _ => (steps (recv c) 15 0 rfl).bind fun _ =>
  (smemLoad sxM (Rect.unit (s := S1) ![0] S1.size inb_S1_S1_0) numel1_S1 rfl).bind fun a =>
  (smemLoad swM (Rect.unit (s := S1) ![0] S1.size inb_S1_S1_0) numel1_S1 rfl).bind fun b =>
  (steps (chunk (k0_pay4 a b)) 32 0 rfl).bind fun _ => steps (drain c) 15 0 rfl

theorem op_congr.{v} {E : Type → Type v} {α β : Type} {e : E β} {k k' : β → Prog E α} (h : ∀ x, k x = k' x) : Prog.op e k = Prog.op e k' :=
  congrArg (Prog.op e) (funext h)

set_option maxRecDepth 200000 in
set_option maxHeartbeats 4000000 in
/-- The printed body is that sequence. -/
theorem body_whole_eq : cc0_body (F := F) xM (Memref.isWhole_whole _) wM (Memref.isWhole_whole _) sxM (Memref.isWhole_whole _) swM (Memref.isWhole_whole _)
    oM (Memref.isWhole_whole _) eM (Memref.isWhole_whole _) gM (Memref.isWhole_whole _) bM (Memref.isWhole_whole _) vM (Memref.isWhole_whole _)
    cc0_scratch4 cc0_scratch5 cc0_scratch6 = (Prog.lift .deviceId).bind bodyAt := by
  repeat refine op_congr fun _ => ?_
  rfl

/-- So is what the launch runs. -/
theorem body_eq (t : Fin cfg0.N) : bodyAt0 (F := F) t = (Prog.lift .deviceId).bind bodyAt := by
  rw [show t = t0_0 from fin_N0 t]
  exact body_whole_eq

end Cert.AllToAll

end
-- ==== Proof.Places.lean ====
/-
  Who sends what to whom, and where it lands. Device `c`'s message number `i` goes to device `c + i + 1` (mod 16), and
  its row block of the cast columns for that device lands in the column block `c` of the destination's gathered rows.
  Here are that arithmetic, the parts of each buffer the copies move, and what each buffer is to hold.
-/
module

public import proofs.«01_k».proof.Proof.Steps
public import Idealize.ShloMosaic.Lib.Pipeline.Kit
public import Idealize.ShloMosaic.Lib.Tactic
public import Idealize.ShloMosaic.Lib.ValueIdxCore
public import Idealize.ShloMosaic.Lib.ValueLayout
public import Idealize.ShloMosaic.Lib.Pipeline.Value
public import Idealize.ShloMosaic.Lib.Pipeline.ValueKit.Geometry

@[expose] public section

noncomputable section

namespace Cert.AllToAll

open Cert.KernelIdeal Cert.KernelIdeal.Gen
open Idealize.ShloMosaic Idealize.ShloMosaic.TcCoe Idealize.SL.Sem
open Idealize.ShloMosaic.ValueIdx

variable {F : FTy → Type} [FloatOps F]

/-! ## The devices -/

set_option backward.proofsInPublic true in
/-- Where device `c`'s message number `i` goes. -/
def dest (c : Dev nD) (i : Fin 15) : Dev nD := ⟨(c.val + i.val + 1) % 16, Nat.mod_lt _ (by decide)⟩

/-- Where device `c`'s message number `i` comes from. -/
abbrev orig (c : Dev nD) (i : Fin 15) : Dev nD := dest c i.rev

theorem dest_rev : ∀ (c : Dev nD) (i : Fin 15), dest (dest c i) i.rev = c := by decide +kernel
theorem dest_orig (c : Dev nD) (i : Fin 15) : dest (orig c i) i = c := by
  have := dest_rev c i.rev; rwa [Fin.rev_rev] at this
theorem dest_inj : ∀ (c : Dev nD) (i j : Fin 15), dest c i = dest c j → i = j := by decide +kernel
theorem dest_ne : ∀ (c : Dev nD) (i : Fin 15), dest c i ≠ c := by decide +kernel
theorem dest_surj : ∀ (c t : Dev nD), t ≠ c → ∃ i, dest c i = t := by decide +kernel

theorem sigDev_eq : ∀ (c : Dev nD) (i : Fin 15), sigDev c i = dest c i := by decide +kernel
theorem sendDev_eq : ∀ (c : Dev nD) (i : Fin 15), sendDev c i = dest c i := by decide +kernel

theorem off2_eq : ∀ (c : Dev nD) (i : Fin 15), k0_off2 c (wd i) = ![256 * (dest c i).val, 0] := by decide +kernel

/-- Naming a device and a message is naming the destination and the message, -/
def along : Dev nD × Fin 15 ≃ Dev nD × Fin 15 where
  toFun p := (dest p.1 p.2, p.2)
  invFun p := (orig p.1 p.2, p.2)
  left_inv p := Prod.ext (dest_rev p.1 p.2) rfl
  right_inv p := Prod.ext (dest_orig p.1 p.2) rfl

/-- or the destination and the answer's number. -/
def flip : Dev nD × Fin 15 ≃ Dev nD × Fin 15 where
  toFun p := (dest p.1 p.2, p.2.rev)
  invFun p := (dest p.1 p.2, p.2.rev)
  left_inv p := Prod.ext (dest_rev p.1 p.2) (Fin.rev_rev _)
  right_inv p := Prod.ext (dest_rev p.1 p.2) (Fin.rev_rev _)

/-! ## The parts of the buffers -/

/-- The row block an element of the cast columns is in; -/
def rowOf (j : S4096x256.Idx) : Dev nD := ⟨(j 0).val / 256, by have := idx2_lt0 j; show _ < 16; omega⟩
/-- the column block an element of the gathered rows is in; -/
def colOf (j : S256x4096.Idx) : Dev nD := ⟨(j 1).val / 256, by have := idx2_lt1 j; show _ < 16; omega⟩
/-- the slot and half an element of the slots is in; -/
def slotOf (j : S4x4096x256.Idx) : Fin 4 × Fin 2 := (⟨(j 0).val, (j 0).isLt⟩, ⟨(j 1).val / 2048, by have : (j 1).val < 4096 := (j 1).isLt; omega⟩)
/-- the chunk and half an element of the weights is in. -/
def wOf (j : S4096x8192.Idx) : Fin 32 × Fin 2 :=
  (⟨(j 1).val / 256, by have := idx2_lt1 j; omega⟩, ⟨(j 0).val / 2048, by have := idx2_lt0 j; omega⟩)

def eSet (t : Dev nD) : Finset S4096x256.Idx := Finset.univ.filter fun j => rowOf j = t
def gSet (t : Dev nD) : Finset S256x4096.Idx := Finset.univ.filter fun j => colOf j = t
def bSet (p : Fin 4 × Fin 2) : Finset S4x4096x256.Idx := Finset.univ.filter fun j => slotOf j = p
def wSet (p : Fin 32 × Fin 2) : Finset S4096x8192.Idx := Finset.univ.filter fun j => wOf j = p

theorem unit2_mem {n0 n1 : ℕ} {off size : Fin 2 → ℕ} {inb} {j : (⟨2, ![n0, n1]⟩ : Shape).Idx} :
    j ∈ (Rect.unit (s := ⟨2, ![n0, n1]⟩) off size inb).set ↔ (off 0 ≤ (j 0).val ∧ (j 0).val < off 0 + size 0) ∧ (off 1 ≤ (j 1).val ∧ (j 1).val < off 1 + size 1) := by
  rw [Rect.mem_set_unit]; exact Fin.forall_fin_two

theorem eOut_set (c : Dev nD) (i : Fin 15) : (eOut c i).view.set = eSet (dest c i) := by
  ext j
  refine (ValueKit.mem_set_slice_whole_iff cc0_scratch0 _ j unit2_mem).trans ?_
  rw [off2_eq]
  have h0 := idx2_lt0 (n0 := 4096) (n1 := 256) j
  have h1 := idx2_lt1 (n0 := 4096) (n1 := 256) j
  have : (j : S4096x256.Idx) ∈ eSet (dest c i) ↔ (j 0).val / 256 = (dest c i).val := by simp [eSet, rowOf, Fin.ext_iff]
  rw [this]
  show (256 * (dest c i).val ≤ (j 0).val ∧ (j 0).val < 256 * (dest c i).val + 256) ∧ (0 ≤ (j 1).val ∧ (j 1).val < 0 + 256) ↔ _
  omega

theorem gMine_set (s : Dev nD) : (gMine s).view.set = gSet s := by
  ext j
  refine (ValueKit.mem_set_slice_whole_iff cc0_scratch1 _ j unit2_mem).trans ?_
  rw [k0_off1_eq]
  have h0 := idx2_lt0 (n0 := 256) (n1 := 4096) j
  have h1 := idx2_lt1 (n0 := 256) (n1 := 4096) j
  have : (j : S256x4096.Idx) ∈ gSet s ↔ (j 1).val / 256 = s.val := by simp [gSet, colOf, Fin.ext_iff]
  rw [this]
  show (0 ≤ (j 0).val ∧ (j 0).val < 0 + 256) ∧ (256 * s.val ≤ (j 1).val ∧ (j 1).val < 256 * s.val + 256) ↔ _
  omega

theorem ownE_set (c : Dev nD) : (eM : Memref sig .tc .vmem S4096x256 .fp8e4m3).view.setOn (rOwnE c).toLoadRect.set = eSet c := by
  show (rOwnE c).set.map (View.whole cc0_scratch0).emb = _
  rw [← View.set_slice]
  ext j
  refine (ValueKit.mem_set_slice_whole_iff cc0_scratch0 (rOwnE c) j unit2_mem).trans ?_
  rw [k0_off3_eq]
  have h0 := idx2_lt0 (n0 := 4096) (n1 := 256) j
  have h1 := idx2_lt1 (n0 := 4096) (n1 := 256) j
  have : (j : S4096x256.Idx) ∈ eSet c ↔ (j 0).val / 256 = c.val := by simp [eSet, rowOf, Fin.ext_iff]
  rw [this]
  show (256 * c.val ≤ (j 0).val ∧ (j 0).val < 256 * c.val + 256) ∧ (0 ≤ (j 1).val ∧ (j 1).val < 0 + 256) ↔ _
  omega

theorem ownG_set (c : Dev nD) : ((gM : Memref sig .tc .vmem S256x4096 .fp8e4m3).access (rOwnG c) : View sig .tc _ _ _).set = gSet c := by
  ext j
  refine (ValueKit.mem_set_slice_whole_iff cc0_scratch1 (rOwnG c) j unit2_mem).trans ?_
  rw [k0_off4_eq]
  have h0 := idx2_lt0 (n0 := 256) (n1 := 4096) j
  have h1 := idx2_lt1 (n0 := 256) (n1 := 4096) j
  have : (j : S256x4096.Idx) ∈ gSet c ↔ (j 1).val / 256 = c.val := by simp [gSet, colOf, Fin.ext_iff]
  rw [this]
  show (0 ≤ (j 0).val ∧ (j 0).val < 0 + 256) ∧ (256 * c.val ≤ (j 1).val ∧ (j 1).val < 256 * c.val + 256) ↔ _
  omega

/-- The slot of chunk `k`. -/
def slot (k : ℕ) : Fin 4 := ⟨k % 4, Nat.mod_lt _ (by decide)⟩

theorem unit3_mem {n0 n1 n2 : ℕ} {off size : Fin 3 → ℕ} {inb} {j : (⟨3, ![n0, n1, n2]⟩ : Shape).Idx} :
    j ∈ (Rect.unit (s := ⟨3, ![n0, n1, n2]⟩) off size inb).set ↔ (off 0 ≤ (j 0).val ∧ (j 0).val < off 0 + size 0)
      ∧ (off 1 ≤ (j 1).val ∧ (j 1).val < off 1 + size 1) ∧ (off 2 ≤ (j 2).val ∧ (j 2).val < off 2 + size 2) := by
  rw [Rect.mem_set_unit]
  exact ⟨fun h => ⟨h 0, h 1, h 2⟩, fun h a => by fin_cases a; exacts [h.1, h.2.1, h.2.2]⟩

theorem bHalf_set (k : Fin 32) (r : Fin 2) : (bHalf k r).view.set = bSet (slot k.val, r) := by
  refine (View.set_reshape _ _).trans ?_
  ext j
  refine (ValueKit.mem_set_slice_whole_iff cc0_scratch2 _ j unit3_mem).trans ?_
  have h0 : (j 0).val < 4 := (j 0).isLt
  have h1 : (j 1).val < 4096 := (j 1).isLt
  have h2 : (j 2).val < 256 := (j 2).isLt
  have hr := r.isLt
  have : (j : S4x4096x256.Idx) ∈ bSet (slot k.val, r) ↔ (j 0).val = k.val % 4 ∧ (j 1).val / 2048 = r.val := by
    simp [bSet, slotOf, slot, Fin.ext_iff]
  rw [this]
  show (k.val % 4 ≤ (j 0).val ∧ (j 0).val < k.val % 4 + 1) ∧ (2048 * r.val ≤ (j 1).val ∧ (j 1).val < 2048 * r.val + 2048)
    ∧ (0 ≤ (j 2).val ∧ (j 2).val < 0 + 256) ↔ _
  omega

theorem wHalf_set (k : Fin 32) (r : Fin 2) : (wHalf k r).view.set = wSet (k, r) := by
  ext j
  refine (ValueKit.mem_set_slice_whole_iff main_arg1 _ j unit2_mem).trans ?_
  have h0 := idx2_lt0 (n0 := 4096) (n1 := 8192) j
  have h1 := idx2_lt1 (n0 := 4096) (n1 := 8192) j
  have : (j : S4096x8192.Idx) ∈ wSet (k, r) ↔ (j 1).val / 256 = k.val ∧ (j 0).val / 2048 = r.val := by
    simp [wSet, wOf, Fin.ext_iff]
  rw [this]
  show (2048 * r.val ≤ (j 0).val ∧ (j 0).val < 2048 * r.val + 2048) ∧ (256 * k.val ≤ (j 1).val ∧ (j 1).val < 256 * k.val + 256) ↔ _
  omega

theorem slot_set (k : Fin 32) : (bM : Memref sig .tc .vmem S4x4096x256 .f32).view.setOn (rSlot k).toLoadRect.set ⊆ bSet (slot k.val, 0) ∪ bSet (slot k.val, 1) := by
  show (rSlot k).set.map (View.whole cc0_scratch2).emb ⊆ _
  rw [← View.set_slice]
  intro j hj
  have hm := (ValueKit.mem_set_slice_whole_iff cc0_scratch2 (rSlot k) j unit3_mem).mp hj
  have h1 : (j 1).val < 4096 := (j 1).isLt
  have hm0 : (k.val % 4 ≤ (j 0).val ∧ (j 0).val < k.val % 4 + 1) := hm.1
  have key : ∀ r : Fin 2, (j : S4x4096x256.Idx) ∈ bSet (slot k.val, r) ↔ (j 0).val = k.val % 4 ∧ (j 1).val / 2048 = r.val := by
    intro r; simp [bSet, slotOf, slot, Fin.ext_iff]
  rw [Finset.mem_union, key, key]
  show _ ∧ _ = 0 ∨ _ ∧ _ = 1
  omega

theorem bSet_disjoint {p q : Fin 4 × Fin 2} (h : p ≠ q) : Disjoint (bSet p) (bSet q) :=
  Finset.disjoint_left.mpr fun j hp hq => h ((Finset.mem_filter.mp hp).2.symm.trans (Finset.mem_filter.mp hq).2)

/-! ## What the buffers hold

`X c`: device `c`'s columns of `x`; `V c`: its weights; `s c`: its product of the scales. -/

/-- The cast of the device's columns. -/
def cast8 (X : S4096x256.Idx → Elt F .f32) : S4096x256.Idx → Elt F .fp8e4m3 := k0_pay2 (k0_pay1 X)

/-- Device `c`'s gathered rows: row `256 c + i` of every device's columns. -/
def gath (X : Dev nD → S4096x256.Idx → Elt F .f32) (c : Dev nD) : S256x4096.Idx → Elt F .fp8e4m3 := fun j =>
  cast8 (X (colOf j)) (ix2 (n0 := 4096) (n1 := 256) ⟨256 * c.val + (j 0).val, by have := idx2_lt0 j; have : c.val < 16 := c.isLt; omega⟩
    ⟨(j 1).val % 256, Nat.mod_lt _ (by decide)⟩)

/-- Chunk `k`'s weight block, in whichever slot. -/
def wSlot (V : S4096x8192.Idx → Elt F .f32) (k : Fin 32) : S4x4096x256.Idx → Elt F .f32 := fun j =>
  V (ix2 (n0 := 4096) (n1 := 8192) ⟨(j 1).val, (j 1).isLt⟩ ⟨256 * k.val + (j 2).val, by have : (j 2).val < 256 := (j 2).isLt; have := k.isLt; omega⟩)

/-- It as the kernel loads it, -/
def wLoad (V : S4096x8192.Idx → Elt F .f32) (k : Fin 32) : S1x4096x256.Idx → Elt F .f32 :=
  (bM : Memref sig .tc .vmem S4x4096x256 .f32).view.readAt (Elt F) (rSlot k).toLoadRect (wSlot V k)
/-- and its cast. -/
def wCast (V : S4096x8192.Idx → Elt F .f32) (k : Fin 32) : S4096x256.Idx → Elt F .fp8e5m2 := k0_pay5 (wLoad V k)

/-- The chunk an element of the result is in. -/
def chunkOf (j : S256x8192.Idx) : Fin 32 := ⟨(j 1).val / 256, by have := idx2_lt1 j; omega⟩

/-- Device `c`'s result. -/
def outAt (X : Dev nD → S4096x256.Idx → Elt F .f32) (V : S4096x8192.Idx → Elt F .f32) (s : F .f32) (c : Dev nD) : S256x8192.Idx → Elt F .f32 := fun j =>
  k0_pay6 s (gath X c) (wCast V (chunkOf j)) (ix2 (n0 := 256) (n1 := 256) ⟨(j 0).val, (j 0).isLt⟩ ⟨(j 1).val % 256, Nat.mod_lt _ (by decide)⟩)

/-- The result after `k` chunks, over what the buffer held. -/
def outTo (o f : S256x8192.Idx → Elt F .f32) (k : ℕ) : S256x8192.Idx → Elt F .f32 := fun j => if (j 1).val < 256 * k then o j else f j

theorem outTo_zero (o f : S256x8192.Idx → Elt F .f32) : outTo o f 0 = f := funext fun j => if_neg (Nat.not_lt_zero _)
theorem outTo_last (o f : S256x8192.Idx → Elt F .f32) : outTo o f 32 = o := funext fun j => if_pos (idx2_lt1 j)

/-! ## The moves -/

/-- Sent to `dest s i` at `s`'s place is what `dest s i` gathers there. -/
theorem landed (X : Dev nD → S4096x256.Idx → Elt F .f32) (s : Dev nD) (i : Fin 15) (fd : S256x4096.Idx → Elt F .fp8e4m3) :
    ∀ j ∈ gSet s, (gMine s).view.write (Elt F) fd ((eOut s i).view.read (Elt F) (cast8 (X s))) Finset.univ j = gath X (dest s i) j := by
  intro j hj
  rw [← gMine_set] at hj
  have hc : colOf j = s := by have := hj; rw [gMine_set] at this; exact (Finset.mem_filter.mp this).2
  obtain ⟨x, -, hx⟩ := Finset.mem_map.mp hj
  subst hx
  refine (View.write_emb_of_mem _ _ (Finset.mem_univ x)).trans ?_
  unfold gath
  rw [hc]
  show cast8 (X s) _ = cast8 (X s) _
  refine congrArg _ ?_
  have e1 : k0_off1 s = _ := k0_off1_eq s
  have e2 := off2_eq s i
  have hx1 : (x 1).val < 256 := (x 1).isLt
  funext a
  refine Fin.ext ?_
  fin_cases a
  · show k0_off2 s (wd i) 0 + 1 * (x 0).val = 256 * (dest s i).val + (k0_off1 s 0 + 1 * (x 0).val)
    rw [e1, e2]
    show 256 * (dest s i).val + 1 * (x 0).val = 256 * (dest s i).val + (0 + 1 * (x 0).val)
    omega
  · show k0_off2 s (wd i) 1 + 1 * (x 1).val = (k0_off1 s 1 + 1 * (x 1).val) % 256
    rw [e1, e2]
    show 0 + 1 * (x 1).val = (256 * s.val + 1 * (x 1).val) % 256
    omega

/-- The device's own block likewise. -/
theorem landedOwn (X : Dev nD → S4096x256.Idx → Elt F .f32) (c : Dev nD) (fd : S256x4096.Idx → Elt F .fp8e4m3) :
    ∀ j ∈ gSet c, ((gM : Memref sig .tc .vmem S256x4096 .fp8e4m3).access (rOwnG c) : View sig .tc _ _ _).write (Elt F) fd
      (k0_pay3 ((eM : Memref sig .tc .vmem S4096x256 .fp8e4m3).view.readAt (Elt F) (rOwnE c).toLoadRect (cast8 (X c)))) Finset.univ j = gath X c j := by
  intro j hj
  have hc : colOf j = c := (Finset.mem_filter.mp hj).2
  rw [← ownG_set] at hj
  obtain ⟨x, -, hx⟩ := Finset.mem_map.mp hj
  subst hx
  refine (View.write_emb_of_mem _ _ (Finset.mem_univ x)).trans ?_
  unfold gath k0_pay3
  rw [hc, shapeCast_self]
  show cast8 (X c) _ = cast8 (X c) _
  refine congrArg _ ?_
  have e1 : k0_off4 c = _ := k0_off4_eq c
  have e2 : k0_off3 c = _ := k0_off3_eq c
  have hx1 : (x 1).val < 256 := (x 1).isLt
  funext a
  refine Fin.ext ?_
  fin_cases a
  · show k0_off3 c 0 + 1 * (x 0).val = 256 * c.val + (k0_off4 c 0 + 1 * (x 0).val)
    rw [e1, e2]
    show 256 * c.val + 1 * (x 0).val = 256 * c.val + (0 + 1 * (x 0).val)
    omega
  · show k0_off3 c 1 + 1 * (x 1).val = (k0_off4 c 1 + 1 * (x 1).val) % 256
    rw [e1, e2]
    show 0 + 1 * (x 1).val = (256 * c.val + 1 * (x 1).val) % 256
    omega

/-- A half weight block's copy leaves its part of the chunk's weights in the slot. -/
theorem fetched (V : S4096x8192.Idx → Elt F .f32) (k : Fin 32) (r : Fin 2) (fd : S4x4096x256.Idx → Elt F .f32) :
    ∀ j ∈ bSet (slot k.val, r), (bHalf k r).view.write (Elt F) fd ((wHalf k r).view.read (Elt F) V) Finset.univ j = wSlot V k j := by
  intro j hj
  rw [← bHalf_set] at hj
  obtain ⟨x, -, hx⟩ := Finset.mem_map.mp hj
  subst hx
  refine (View.write_emb_of_mem _ _ (Finset.mem_univ x)).trans ?_
  have hx : (bHalf k r).view.emb x = ((View.whole cc0_scratch2).slice (Rect.unit (s := S4x4096x256) ![k.val % 4, 2048 * r.val, 0] S1x2048x256.size (inbSlot k r))).emb
      (ix3 (⟨0, Nat.one_pos⟩ : Fin 1) (x 0) (x 1)) :=
    congrArg (fun y : S1x2048x256.Idx => ((View.whole cc0_scratch2).slice (Rect.unit (s := S4x4096x256) ![k.val % 4, 2048 * r.val, 0] S1x2048x256.size (inbSlot k r))).emb y)
      ((congrArg (Shape.reshapeEquiv squeezes_S1x2048x256_S2048x256.numel_eq) (eq_ix2 x)).trans
      (reshapeEquiv_ix2_1ab squeezes_S1x2048x256_S2048x256.numel_eq (x 0) (x 1)))
  rw [hx]
  unfold wSlot
  show V _ = V _
  refine congrArg _ ?_
  funext a
  refine Fin.ext ?_
  fin_cases a
  · show 2048 * r.val + 1 * (x 0).val = 2048 * r.val + 1 * (x 0).val
    rfl
  · show 256 * k.val + 1 * (x 1).val = 256 * k.val + (0 + 1 * (x 1).val)
    omega

/-- Chunk `k`'s store moves the result one chunk further. -/
theorem stored (o f : S256x8192.Idx → Elt F .f32) (k : Fin 32) (p : S256x256.Idx → Elt F .f32)
    (hp : ∀ x : S256x256.Idx, p x = o (ix2 (n0 := 256) (n1 := 8192) ⟨(x 0).val, (x 0).isLt⟩
      ⟨256 * k.val + (x 1).val, by have : (x 1).val < 256 := (x 1).isLt; have := k.isLt; omega⟩)) :
    ((oM : Memref sig .tc .vmem S256x8192 .f32).access (rO k) : View sig .tc _ _ _).write (Elt F) (outTo o f k.val) p Finset.univ = outTo o f (k.val + 1) := by
  funext j
  by_cases hj : j ∈ ((oM : Memref sig .tc .vmem S256x8192 .f32).access (rO k) : View sig .tc _ _ _).set
  · obtain ⟨x, -, hx⟩ := Finset.mem_map.mp hj
    subst hx
    refine (View.write_emb_of_mem _ _ (Finset.mem_univ x)).trans ?_
    have hx1 : (x 1).val < 256 := (x 1).isLt
    unfold outTo
    refine Eq.trans ?_ (if_pos (show 256 * k.val + 1 * (x 1).val < 256 * (k.val + 1) by omega)).symm
    refine (hp x).trans ?_
    refine congrArg _ ?_
    funext a
    refine Fin.ext ?_
    fin_cases a
    · show (x 0).val = 0 + 1 * (x 0).val
      omega
    · show 256 * k.val + (x 1).val = 256 * k.val + 1 * (x 1).val
      omega
  · refine (View.write_of_not_mem _ _ _ hj).trans ?_
    have hm := mt (ValueKit.mem_set_slice_whole_iff cc0_stg3_0 (rO k) j unit2_mem).mpr hj
    have h0 := idx2_lt0 (n0 := 256) (n1 := 8192) j
    have hm' : ¬((0 ≤ (j 0).val ∧ (j 0).val < 0 + 256) ∧ (256 * k.val ≤ (j 1).val ∧ (j 1).val < 256 * k.val + 256)) := hm
    unfold outTo
    by_cases h : (j 1).val < 256 * k.val
    · rw [if_pos h, if_pos (by omega)]
    · rw [if_neg h, if_neg (by omega)]

end Cert.AllToAll

end
-- ==== Proof.Sep.lean ====
/-
  Three facts of separation logic the run uses. A loop of `steps` that turns one piece of a family after another from
  `Φ i` into `Ψ i` while an invariant goes along; a buffer held is its parts held, the parts being where a function of
  the index takes each value; parts held at whatever contents are the buffer held at some contents.
-/
module

public import proofs.«01_k».proof.Proof.Places

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UB : Type := URounds (GSem nD τ sig) (Fin 15)
abbrev UU : Type := UR sig nD τ × (UB × Counters)

local notation "𝕄" => MT nD τ sig Unit (Elt F) ℕ UU ℕ

abbrev 𝒱₀ : Variants := Variants.none

/-- What device `c` establishes by running `p`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem runs_bind (c : Dev nD) {α β : Type} (p : Prog (TpuEff nD τ sig (Elt F) Λ₀ .tc) α) (k : α → Prog (TpuEff nD τ sig (Elt F) Λ₀ .tc) β)
    (Q : β → sProp 𝕄) : runs c (p.bind k) Q = runs c p fun a => runs c (k a) Q := wp_bind _ _ _ p k Q

theorem runs_mono (c : Dev nD) {α : Type} {p : Prog (TpuEff nD τ sig (Elt F) Λ₀ .tc) α} {Q Q' : α → sProp 𝕄} (h : ∀ a, Q a ⊢ Q' a) :
    runs c p Q ⊢ runs c p Q' := wp_mono _ _ _ h
theorem runs_wand (c : Dev nD) {α : Type} {p : Prog (TpuEff nD τ sig (Elt F) Λ₀ .tc) α} {Q Q' : α → sProp 𝕄} :
    iprop(runs c p Q ∗ (∀ a, Q a -∗ Q' a)) ⊢ runs c p Q' := wp_wand_r _ _ _

theorem runs_ret (c : Dev nD) {α : Type} {a : α} {Q : α → sProp 𝕄} : Q a ⊢ runs (F := F) c (.ret a) Q := by
  unfold runs
  rw [wp_ret]
  exact fupd_intro

/-- One part after the other. -/
theorem runs_seq (c : Dev nD) {α β : Type} {p : Prog (TpuEff nD τ sig (Elt F) Λ₀ .tc) α} {k : α → Prog (TpuEff nD τ sig (Elt F) Λ₀ .tc) β}
    {P : sProp 𝕄} {Q : α → sProp 𝕄} {R : β → sProp 𝕄} (h : P ⊢ runs c p Q) (h' : ∀ a, Q a ⊢ runs c (k a) R) : P ⊢ runs c (p.bind k) R := by
  rw [runs_bind]
  exact h.trans (runs_mono c h')

/-! ## Families -/

section Fam
variable {n : ℕ}

/-- The members from number `i` on; -/
def rest (Φ : Fin n → sProp 𝕄) (i : ℕ) : sProp 𝕄 := bigSep (Finset.univ.filter fun j : Fin n => i ≤ j.val) Φ
/-- those before it. -/
def upto (Φ : Fin n → sProp 𝕄) (i : ℕ) : sProp 𝕄 := bigSep (Finset.univ.filter fun j : Fin n => j.val < i) Φ

theorem rest_zero (Φ : Fin n → sProp 𝕄) : rest Φ 0 = bigSep Finset.univ Φ := by
  unfold rest; rw [Finset.filter_true_of_mem fun j _ => Nat.zero_le _]
theorem rest_end (Φ : Fin n → sProp 𝕄) {i : ℕ} (h : n ≤ i) : rest Φ i = iprop(emp) := by
  unfold rest; rw [Finset.filter_false_of_mem fun j _ => by have := j.isLt; omega, bigSep_empty]; rfl
theorem rest_step (Φ : Fin n → sProp 𝕄) (i : Fin n) : rest Φ i.val = iprop(Φ i ∗ rest Φ (i.val + 1)) := by
  unfold rest
  rw [show (Finset.univ.filter fun j : Fin n => i.val ≤ j.val) = insert i (Finset.univ.filter fun j : Fin n => i.val + 1 ≤ j.val) from by
    ext j; simp only [Finset.mem_filter, Finset.mem_univ, true_and, Finset.mem_insert, Fin.ext_iff]; omega]
  exact bigSep_insert (by simp)
theorem upto_zero (Φ : Fin n → sProp 𝕄) : upto Φ 0 = iprop(emp) := by
  unfold upto; rw [Finset.filter_false_of_mem fun j _ => by omega, bigSep_empty]; rfl
theorem upto_end (Φ : Fin n → sProp 𝕄) : upto Φ n = bigSep Finset.univ Φ := by
  unfold upto; rw [Finset.filter_true_of_mem fun j _ => j.isLt]
theorem upto_step (Φ : Fin n → sProp 𝕄) (i : Fin n) : upto Φ (i.val + 1) = iprop(Φ i ∗ upto Φ i.val) := by
  unfold upto
  rw [show (Finset.univ.filter fun j : Fin n => j.val < i.val + 1) = insert i (Finset.univ.filter fun j : Fin n => j.val < i.val) from by
    ext j; simp only [Finset.mem_filter, Finset.mem_univ, true_and, Finset.mem_insert, Fin.ext_iff]; omega]
  exact bigSep_insert (by simp)

/-- A loop keeping an invariant. -/
theorem runs_steps (c : Dev nD) (f : Fin n → Act F) (I : ℕ → sProp 𝕄) (h : ∀ i : Fin n, I i.val ⊢ runs c (f i) fun _ => I (i.val + 1)) :
    ∀ (k i : ℕ) (e : i + k = n), I i ⊢ runs c (steps f k i e) fun _ => I n
  | 0, i, e => by
    obtain rfl : i = n := e
    unfold steps runs
    rw [wp_ret]
    exact fupd_intro
  | k + 1, i, e => runs_seq c (h ⟨i, by omega⟩) fun _ => runs_steps c f I h k (i + 1) (by omega)

/-- A loop over a family, `R` at hand throughout. -/
theorem runs_family (c : Dev nD) (f : Fin n → Act F) (R : sProp 𝕄) [BI.Persistent R] (A : ℕ → sProp 𝕄) (Φ Ψ : Fin n → sProp 𝕄)
    (h : ∀ i : Fin n, iprop(R ∗ A i.val ∗ Φ i) ⊢ runs c (f i) fun _ => iprop(A (i.val + 1) ∗ Ψ i)) (e : 0 + n = n) :
    iprop(R ∗ A 0 ∗ bigSep Finset.univ Φ) ⊢ runs c (steps f n 0 e) fun _ => iprop(A n ∗ bigSep Finset.univ Ψ) := by
  have key := runs_steps c f (fun i => iprop(R ∗ A i ∗ rest Φ i ∗ upto Ψ i)) (fun i => by
    rw [rest_step, upto_step]
    iintro ⟨#HR, HA, ⟨HΦ, Hr⟩, Hu⟩
    iapply (runs_wand c (Q := fun _ => iprop(A (i.val + 1) ∗ Ψ i)))
    isplitl [HA HΦ]
    · iapply (h i)
      isplitr; · iexact HR
      isplitl [HA] <;> iassumption
    · iintro %u ⟨HA, HΨ⟩
      isplitr; · iexact HR
      isplitl [HA]; · iexact HA
      isplitl [Hr]; · iexact Hr
      isplitl [HΨ] <;> iassumption) n 0 e
  rw [rest_zero, upto_zero, rest_end Φ le_rfl, upto_end] at key
  refine BIBase.Entails.trans ?_ (key.trans (runs_mono c fun _ => ?_))
  · iintro ⟨HR, HA, HΦ⟩
    isplitl [HR]; · iexact HR
    isplitl [HA]; · iexact HA
    isplitl [HΦ]; · iexact HΦ
    iempintro
  · iintro ⟨-, HA, -, HΨ⟩
    isplitl [HA] <;> iassumption

end Fam

/-! ## A buffer and its parts -/

section Parts
variable {T : Type} [Fintype T] [DecidableEq T]

theorem pointsTo_parts (ℓ : Loc nD τ sig) (κ : Idx ℓ → T) (q : PosShare TreeShare) (f : Buf (Elt F) ℓ) :
    ((ℓ ↦{q} f) : sProp 𝕄) = bigSep Finset.univ fun t : T => ℓ ↦[Finset.univ.filter fun j => κ j = t]{q} f := by
  rw [← pointsTo_biUnion _ _ fun t _ t' _ htt => Finset.disjoint_left.mpr fun j hj hj' =>
    htt ((Finset.mem_filter.mp hj).2.symm.trans (Finset.mem_filter.mp hj').2)]
  congr 1
  ext j
  simp

theorem pointsTo_parts_any [∀ e, Nonempty (Elt F e)] (ℓ : Loc nD τ sig) (κ : Idx ℓ → T) (q : PosShare TreeShare) :
    (bigSep Finset.univ fun t : T => iprop(∃ f, ℓ ↦[Finset.univ.filter fun j => κ j = t]{q} f)) ⊢ (iprop(∃ f, ℓ ↦{q} f) : sProp 𝕄) := by
  iintro H
  ihave H' := (BI.bigSep_exists_pi (M := 𝕄) Finset.univ fun (t : T) (f : Buf (Elt F) ℓ) => (ℓ ↦[Finset.univ.filter fun j => κ j = t]{q} f : sProp 𝕄)) $$ H
  icases H' with ⟨%g, H⟩
  iexists fun j => g (κ j) j
  rw [pointsTo_parts ℓ κ q]
  iapply (Entails.of_eq (bigSep_congr fun t _ => pointsTo_congr fun j hj => ?_)) $$ H
  rw [(Finset.mem_filter.mp hj).2]

end Parts

end Cert.AllToAll

end
-- ==== Proof.Protocol.lean ====
/-
  The protocol. Every device's barrier cell has one round of fifteen duties, one for each other device: duty `i` is paid
  by device `dest c i` when it has entered, and hands over the place in that device's gathered rows where `c`'s block
  goes. Every device's receive cell number `i` has one duty, paid by the arrival of that block, and hands over the place
  holding it. Every send cell has one duty, paid when the block has been read, and hands the block back. A device owes
  at launch fifteen units to the others' barriers and fifteen blocks to their receive cells.
-/
module

public import proofs.«01_k».proof.Proof.Sep

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The cells -/

/-- The protocol's cells on one device: the barrier, the sends, the receives. -/
abbrev Cell : Type := Option (Bool × Fin 15)

set_option backward.proofsInPublic true in
abbrev csem : Cell → SemLoc sig
  | none => .reg barS
  | some (false, i) => .dma (sendS i)
  | some (true, i) => .dma (recvS i)

set_option backward.proofsInPublic true in
/-- Which of them a semaphore is. -/
def kind : SemLoc sig → Option Cell
  | .reg s => if s = barS then some none else none
  | .dma q => if h : 5 ≤ q.val ∧ q.val < 20 then some (some (false, ⟨q.val - 5, by omega⟩))
      else if h : 21 ≤ q.val ∧ q.val < 36 then some (some (true, ⟨q.val - 21, by omega⟩)) else none

theorem kind_csem : ∀ k : Cell, kind (csem k) = some k := by decide +kernel
theorem kind_bar : kind (.reg barS) = some none := kind_csem none
theorem kind_send (i : Fin 15) : kind (.dma (sendS i)) = some (some (false, i)) := kind_csem (some (false, i))
theorem kind_recv (i : Fin 15) : kind (.dma (recvS i)) = some (some (true, i)) := kind_csem (some (true, i))

abbrev barCell (c : Dev nD) : GSem nD τ sig := ((c : Thread nD τ), .reg barS)
abbrev sendCell (c : Dev nD) (i : Fin 15) : GSem nD τ sig := ((c : Thread nD τ), .dma (sendS i))
abbrev recvCell (c : Dev nD) (i : Fin 15) : GSem nD τ sig := ((c : Thread nD τ), .dma (recvS i))
abbrev kcell (p : Dev nD × Cell) : GSem nD τ sig := ((p.1 : Thread nD τ), csem p.2)

theorem kcell_injective : Function.Injective (kcell : Dev nD × Cell → GSem nD τ sig) := by
  rintro ⟨c, k⟩ ⟨c', k'⟩ h
  have h1 : c = c' := congrArg (fun g : GSem nD τ sig => g.1.1) h
  have h2 : csem k = csem k' := congrArg Prod.snd h
  have h3 := congrArg kind h2
  rw [kind_csem, kind_csem] at h3
  exact Prod.ext h1 (Option.some.inj h3)

/-- The credit of one block's copy. -/
abbrev N : ℕ := (gMine 0).view.dmaCredit
theorem N_pos : 0 < N := View.dmaCredit_pos _ (by decide)

/-! ## The payloads -/

variable (X : Dev nD → S4096x256.Idx → Elt F .f32)

/-- The place for `s`'s block in device `t`'s gathered rows, at `f`. -/
def gPts (t s : Dev nD) (f : S256x4096.Idx → Elt F .fp8e4m3) : sProp 𝕄 := ((t : Thread nD τ).loc cc0_scratch1) ↦[gSet s]{fullShare} f
/-- Device `c`'s rows of its cast columns for `t`. -/
def ePts (c t : Dev nD) : sProp 𝕄 := ((c : Thread nD τ).loc cc0_scratch0) ↦[eSet t]{fullShare} cast8 (X c)

instance gPts_storable (t s : Dev nD) (f) : BI.Storable (upEmb : UEmb _ 𝕄) (gPts (F := F) t s f) := by unfold gPts; infer_instance
instance ePts_storable (c t : Dev nD) : BI.Storable (upEmb : UEmb _ 𝕄) (ePts (F := F) X c t) := by unfold ePts; infer_instance

def barPay (c : Dev nD) (i : Fin 15) : sProp 𝕄 := iprop(∃ f, gPts (dest c i) c f)
def sendPay (c : Dev nD) (i : Fin 15) : sProp 𝕄 := ePts X c (dest c i)
def recvPay (c : Dev nD) (i : Fin 15) : sProp 𝕄 := gPts c (orig c i) (gath X c)

instance barPay_storable (c : Dev nD) (i : Fin 15) : BI.Storable (upEmb : UEmb _ 𝕄) (barPay (F := F) c i) := by unfold barPay; infer_instance

/-! ## The schedule -/

def cellDuties : Option Cell → Finset (Fin 15)
  | some none => Finset.univ
  | some (some _) => {0}
  | none => ∅

def cellAmount : Option Cell → ℕ
  | some (some _) => N
  | _ => 1

def cellPay (c : Dev nD) : Option Cell → Fin 15 → sProp 𝕄
  | some none, d => barPay c d
  | some (some (false, i)), _ => sendPay X c i
  | some (some (true, i)), _ => recvPay X c i
  | none, _ => iprop(emp)

theorem cellAmount_pos : ∀ k, 0 < cellAmount k
  | some (some _) => N_pos
  | some none => Nat.one_pos
  | none => Nat.one_pos

instance cellPay_storable (c : Dev nD) (k : Option Cell) (d : Fin 15) : BI.Storable (upEmb : UEmb _ 𝕄) (cellPay (F := F) X c k d) := by
  rcases k with _ | _ | ⟨_ | _, i⟩
  · dsimp only [cellPay]; infer_instance
  · exact barPay_storable c d
  · exact ePts_storable X c _
  · exact gPts_storable c _ _

def sched : Rounds.Schedule (GSem nD τ sig) (Fin 15) 𝕄 where
  duties g r := if r = 0 ∧ g.1.2 = .tc then cellDuties (kind g.2) else ∅
  unitless _ := False
  amount g _ _ := cellAmount (kind g.2)
  payload g _ d := cellPay X g.1.1 (kind g.2) d
  amount_pos g _ _ _ := cellAmount_pos _

instance sched_payload_storable (g : GSem nD τ sig) (r : ℕ) (d : Fin 15) : BI.Storable (upEmb : UEmb _ 𝕄) ((sched (F := F) X).payload g r d) :=
  cellPay_storable X _ _ _

section Sched
variable (c : Dev nD) (i d : Fin 15)

theorem duties_bar : (sched (F := F) X).duties (barCell c) 0 = Finset.univ := by
  dsimp only [sched]; rw [if_pos ⟨rfl, rfl⟩, kind_bar]; rfl
theorem duties_send : (sched (F := F) X).duties (sendCell c i) 0 = {0} := by
  dsimp only [sched]; rw [if_pos ⟨rfl, rfl⟩, kind_send]; rfl
theorem duties_recv : (sched (F := F) X).duties (recvCell c i) 0 = {0} := by
  dsimp only [sched]; rw [if_pos ⟨rfl, rfl⟩, kind_recv]; rfl
theorem duties_later (g : GSem nD τ sig) : ∀ r, 1 ≤ r → (sched (F := F) X).duties g r = ∅ :=
  fun r hr => by dsimp only [sched]; rw [if_neg fun h => by omega]
theorem amount_bar : (sched (F := F) X).amount (barCell c) 0 d = 1 := by dsimp only [sched]; rw [kind_bar]; rfl
theorem amount_send : (sched (F := F) X).amount (sendCell c i) 0 d = N := by dsimp only [sched]; rw [kind_send]; rfl
theorem amount_recv : (sched (F := F) X).amount (recvCell c i) 0 d = N := by dsimp only [sched]; rw [kind_recv]; rfl
theorem payload_bar : (sched (F := F) X).payload (barCell c) 0 d = barPay c d := by dsimp only [sched]; rw [kind_bar]; rfl
theorem payload_send : (sched (F := F) X).payload (sendCell c i) 0 d = sendPay X c i := by dsimp only [sched]; rw [kind_send]; rfl
theorem payload_recv : (sched (F := F) X).payload (recvCell c i) 0 d = recvPay X c i := by dsimp only [sched]; rw [kind_recv]; rfl

theorem expect_bar : (sched (F := F) X).expect (barCell c) 0 = 15 := by
  unfold Schedule.expect Schedule.amountOf
  rw [duties_bar, Finset.sum_congr rfl fun d _ => amount_bar X c d, Finset.sum_const, Finset.card_univ, Fintype.card_fin, smul_eq_mul]
theorem expect_send : (sched (F := F) X).expect (sendCell c i) 0 = N := by
  unfold Schedule.expect Schedule.amountOf; rw [duties_send, Finset.sum_singleton, amount_send]
theorem expect_recv : (sched (F := F) X).expect (recvCell c i) 0 = N := by
  unfold Schedule.expect Schedule.amountOf; rw [duties_recv, Finset.sum_singleton, amount_recv]

theorem rest_bar : bigSep ((sched (F := F) X).duties (barCell c) 0 \ ∅) (fun d => (sched (F := F) X).payload (barCell c) 0 d) = bigSep Finset.univ (barPay c) := by
  rw [Finset.sdiff_empty, duties_bar]; exact bigSep_congr fun d _ => payload_bar X c d
theorem rest_send : bigSep ((sched (F := F) X).duties (sendCell c i) 0 \ ∅) (fun d => (sched (F := F) X).payload (sendCell c i) 0 d) = sendPay X c i := by
  rw [Finset.sdiff_empty, duties_send, bigSep_singleton, payload_send]
theorem rest_recv : bigSep ((sched (F := F) X).duties (recvCell c i) 0 \ ∅) (fun d => (sched (F := F) X).payload (recvCell c i) 0 d) = recvPay X c i := by
  rw [Finset.sdiff_empty, duties_recv, bigSep_singleton, payload_recv]

end Sched

/-! ## What each device owes; the levels -/

/-- A sum of tallies, peeled in the order the device pays them. -/
def owing (f : Fin 15 → CellTallies nD τ sig Unit) (base : CellTallies nD τ sig Unit) (i : ℕ) : CellTallies nD τ sig Unit :=
  base + ∑ j ∈ Finset.univ.filter (fun j : Fin 15 => i ≤ j.val), f j

theorem owing_step (f : Fin 15 → CellTallies nD τ sig Unit) (base) (i : Fin 15) : owing f base i.val = owing f base (i.val + 1) + f i := by
  unfold owing
  rw [show (Finset.univ.filter fun j : Fin 15 => i.val ≤ j.val) = insert i (Finset.univ.filter fun j : Fin 15 => i.val + 1 ≤ j.val) from by
    ext j; simp only [Finset.mem_filter, Finset.mem_univ, true_and, Finset.mem_insert, Fin.ext_iff]; omega, Finset.sum_insert (by simp)]
  rw [add_comm (f i), add_assoc]
theorem owing_end (f : Fin 15 → CellTallies nD τ sig Unit) (base) : owing f base 15 = base := by
  unfold owing
  rw [Finset.filter_false_of_mem fun j _ => by have := j.isLt; omega, Finset.sum_empty, add_zero]

/-- What device `c` owes the receive cells from its copy number `i` on; -/
def Or (c : Dev nD) (i : ℕ) : CellTallies nD τ sig Unit := owing (fun j => tallyAt (recvCell (dest c j) j) () N) 0 i
/-- what it owes from its signal number `i` on. -/
def Ob (c : Dev nD) (i : ℕ) : CellTallies nD τ sig Unit := owing (fun j => tallyAt (barCell (dest c j)) () 1) (Or c 0) i
/-- What it owes at launch. -/
def O₀ (c : Dev nD) : CellTallies nD τ sig Unit := Ob c 0

theorem owing_apply (f : Fin 15 → CellTallies nD τ sig Unit) (base) (g : GSem nD τ sig) (u : Unit) : owing f base 0 g u = base g u + ∑ j, f j g u := by
  unfold owing
  rw [Finset.filter_true_of_mem fun j _ => Nat.zero_le _, Pi.add_apply, Finsupp.add_apply, Finset.sum_apply, Finsupp.finset_sum_apply]

theorem Or_pos {c : Dev nD} {g : GSem nD τ sig} {u : Unit} (h : 0 < Or c 0 g u) : ∃ j, g = recvCell (dest c j) j := by
  by_contra hn
  push Not at hn
  unfold Or at h
  rw [owing_apply, Finset.sum_eq_zero fun j _ => by rw [tallyAt_apply, if_neg fun h' => hn j h'.1]] at h
  exact Nat.lt_irrefl 0 h
theorem O₀_pos {c : Dev nD} {g : GSem nD τ sig} {u : Unit} (h : 0 < O₀ c g u) : (∃ j, g = recvCell (dest c j) j) ∨ ∃ j, g = barCell (dest c j) := by
  by_contra hn
  rw [not_or] at hn
  obtain ⟨h1, h2⟩ := hn
  push Not at h2
  unfold O₀ Ob at h
  rw [owing_apply, Finset.sum_eq_zero fun j _ => by rw [tallyAt_apply, if_neg fun h' => h2 j h'.1], add_zero] at h
  exact h1 (Or_pos h)

def L (g : GSem nD τ sig) : Finset Unit := if g.1.2 = .tc then {()} else ∅
def level : Option Cell → ℕ
  | some none => 1
  | some (some (true, _)) => 2
  | _ => 0
/-- Barrier cells at 1, receive cells at 2, everything else at 0. -/
def lv (g : GSem nD τ sig) (_ : Unit) : ℕ := level (kind g.2)

theorem lv_bar (c : Dev nD) : lv (barCell c) () = 1 := by unfold lv; rw [kind_bar]; rfl
theorem lv_recv (c : Dev nD) (i : Fin 15) : lv (recvCell c i) () = 2 := by unfold lv; rw [kind_recv]; rfl
theorem L_of_ne (g : GSem nD τ sig) (h : g.1.2 ≠ .tc) : L g = ∅ := if_neg h
theorem L_tc (c : Dev nD) (sm : SemLoc sig) : L ((c : Thread nD τ), sm) = {()} := if_pos rfl

/-- The staging copies' waits come below everything owed. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; dsimp only [lv]; rw [hq]; exact le_rfl)
      (fun g u hg => by
        rcases O₀_pos hg with ⟨j, rfl⟩ | ⟨j, rfl⟩
        · rw [lv_recv]; decide
        · rw [lv_bar]; decide)
  · rw [MayWait_zero]; iintro -; iempintro

/-- At its barrier wait a device owes the receive cells only. -/
theorem mayWait_bar (c : Dev nD) : (levAts L lv : sProp 𝕄) ⊢ MayWait (c : Thread nD τ) (.reg barS) () (Or c 0) :=
  MayOwe.of_cut (L := L) (lev := lv) 1 (fun p hp => by rw [Finset.mem_singleton.mp hp, L_tc]; exact Finset.mem_singleton_self _)
    (fun g u hg => by obtain ⟨j, rfl⟩ := Or_pos hg; exact Finset.mem_singleton_self _)
    (fun p hp => by rw [Finset.mem_singleton.mp hp, lv_bar])
    (fun g u hg => by obtain ⟨j, rfl⟩ := Or_pos hg; rw [lv_recv]; decide)

/-! ## The records -/

/-- Every cell's invariant, and that every cell has reached its round. -/
def records (K : Dev nD × Cell → ℕ) : sProp 𝕄 :=
  iprop((bigSep Finset.univ fun p : Dev nD × Cell => cellInv ER (sched X) (K p) (kcell p))
    ∗ bigSep Finset.univ fun p : Dev nD × Cell => reached ER (kcell p) 0)

instance records_persistent (K : Dev nD × Cell → ℕ) : BI.Persistent (records X K) := by unfold records; infer_instance

theorem one_of {I : Type} [Fintype I] [DecidableEq I] (Φ : I → sProp 𝕄) (i : I) : (bigSep Finset.univ Φ : sProp 𝕄) ⊢ Φ i :=
  bigSep_elim (Finset.mem_univ i)

theorem records_inv (K : Dev nD × Cell → ℕ) (p : Dev nD × Cell) : records X K ⊢ (cellInv ER (sched X) (K p) (kcell p) : sProp 𝕄) := by
  unfold records; iintro ⟨H, -⟩; iapply (one_of (fun p : Dev nD × Cell => cellInv ER (sched X) (K p) (kcell p)) p); iexact H
theorem records_reached (K : Dev nD × Cell → ℕ) (p : Dev nD × Cell) : records X K ⊢ (reached ER (kcell p) 0 : sProp 𝕄) := by
  unfold records; iintro ⟨-, H⟩; iapply (one_of (fun p : Dev nD × Cell => (reached ER (kcell p) 0 : sProp 𝕄)) p); iexact H

end Cert.AllToAll

end
-- ==== Proof.Talk.lean ====
/-
  The device's dealings with the others: one signal, the barrier wait, one copy, one receive wait, one send wait, each
  at a symbolic device and number, and the loops over them.
-/
module

public import proofs.«01_k».proof.Proof.Protocol

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x256.Idx → Elt F .f32) (K : Dev nD × Cell → ℕ) (c : Dev nD)

/-! ## The signals -/

/-- What signal number `j` takes: the duty's token, and the place for `dest c j`'s block. -/
def toSignal (j : Fin 15) : sProp 𝕄 := iprop(dutyTok ER (barCell (dest c j)) 0 j.rev ∗ ∃ f, gPts c (dest c j) f)

theorem signal_runs (W : Waits sig Unit) (j : Fin 15) :
    iprop(records X K ∗ owes (c : Thread nD τ) (Ob c j.val) W ∗ toSignal c j)
      ⊢ runs c (signal (F := F) c j) fun _ => iprop(owes (c : Thread nD τ) (Ob c (j.val + 1)) W ∗ emp) := by
  unfold signal toSignal
  rw [sigDev_eq]
  simp only [semSignalWord, Prog.lift, Prog.bind_op, Prog.bind_ret, Prog.pure_eq_ret]
  iintro ⟨#HR, HO, Htok, Hg⟩
  iapply (Rounds.wp_signal 𝒱₀ ER (sched X) (c : Thread nD τ) none (dst := (dest c j : Thread nD τ)) (κ := K (dest c j, none))
      (d := j.rev) (by rw [duties_bar]; exact Finset.mem_univ _) ((amount_bar X (dest c j) j.rev).trans (by decide)) ()
      (Ob c (j.val + 1)) (owing_step _ _ j)) $$ [HO Htok Hg]
  · isplitr; · iapply (records_inv X K (dest c j, none)); iexact HR
    isplitl [HO]; · iexact HO
    isplitl [Htok]; · iexact Htok
    isplitl [Hg]
    · rw [payload_bar]; unfold barPay; rw [dest_rev]; iexact Hg
    · iapply (records_reached X K (dest c j, none)); iexact HR
  iintro HO
  rw [wp_ret]; imodintro
  isplitl [HO]; · iexact HO
  iempintro

/-! ## The barrier wait -/

theorem barrier_runs (W : Waits sig Unit) :
    iprop(records X K ∗ levAts L lv ∗ owes (c : Thread nD τ) (Or c 0) W ∗ cred (tallyAt (barCell c) () 15) ∗ atPos ER (barCell c) 0 ∅ 0)
      ⊢ runs c (semWaitWord (Val := Elt F) barS 15#32) fun _ => iprop((∃ W, owes (c : Thread nD τ) (Or c 0) W) ∗ semVal (barCell c) 0
          ∗ bigSep Finset.univ (barPay (F := F) c)) := by
  simp only [semWaitWord, Prog.lift, Prog.bind_op, Prog.bind_ret, Prog.pure_eq_ret]
  iintro ⟨#HR, #Hlev, HO, Hcred, Hat⟩
  iapply (Rounds.wp_wait_rest_token 𝒱₀ ER (sched X) (c : Thread nD τ) none (κ := K (c, none))
      (wpE_semWait_eq 𝒱₀ (c : Thread nD τ) none Set.univ) (Set.mem_univ _) () (O := Or c 0) (W := W) (R := 0) (m := 0) (T := ∅)
      (by rw [expect_bar]; decide)) $$ [HO Hcred Hat]
  · isplitr; · iapply (records_inv X K (c, none)); iexact HR
    isplitl [Hcred]; · iexact Hcred
    isplitl [HO]; · iexact HO
    isplitr; · iapply (mayWait_bar c); iexact Hlev
    iexact Hat
  iintro ⟨HO, Hat, -, Hpay⟩
  imod (Rounds.cell_close ER (sched X) (Set.mem_univ (K (c, none))) (fun h => h) (R := 0 + 1) (duties_later X (barCell c))) $$ [Hat] with Hz
  · isplitr; · iapply (records_inv X K (c, none)); iexact HR
    iexact Hat
  rw [wp_ret]; imodintro
  isplitl [HO]; · iexists _; iexact HO
  isplitl [Hz]; · iexact Hz
  iapply (Entails.of_eq (rest_bar X c)); iexact Hpay

/-! ## The copies -/

/-- What copy number `j` takes: its rows of the cast columns, the place on `dest c j`, and the two duties' tokens. -/
def toSend (j : Fin 15) : sProp 𝕄 :=
  iprop((ePts X c (dest c j) ∗ barPay c j) ∗ dutyTok ER (sendCell c j) 0 0 ∗ dutyTok ER (recvCell (dest c j) j) 0 0)

theorem wp_sendTo (n : Dev nD) (j : Fin 15) (hn : n = dest c j)
    {hsc : (gMine c : Memref sig (Dev.tc n : Thread nD τ).2.kind .vmem S256x256 .fp8e4m3).view.ref.isScScratch = false}
    {hsrc : (eOut c j).view.WordExact} {hdst : (gMine c : Memref sig (Dev.tc n : Thread nD τ).2.kind .vmem S256x256 .fp8e4m3).view.WordExact}
    {hsem : DmaTarget.Typed .vmem (.dma (recvS j)) (.remote (Dev.tc n : Thread nD τ) (gMine c : Memref sig (Dev.tc n : Thread nD τ).2.kind .vmem S256x256 .fp8e4m3) (.dma (sendS j)) hsc)}
    {α : Type} {Q : α → sProp 𝕄} {k : PUnit → Prog (TpuEff nD τ sig (Elt F) Λ₀ .tc) α} (W : Waits sig Unit)
    (fd : Buf (Elt F) ((gMine c).view.loc (dest c j : Thread nD τ))) :
    iprop(cellInv ER (sched X) (K (c, some (false, j))) (sendCell c j) ∗ cellInv ER (sched X) (K (dest c j, some (true, j))) (recvCell (dest c j) j)
        ∗ ((eOut c j).view.loc (c : Thread nD τ) ↦[(eOut c j).view.set]{fullShare} cast8 (X c))
        ∗ ((gMine c).view.loc (dest c j : Thread nD τ) ↦[(gMine c).view.set]{fullShare} fd)
        ∗ owes (c : Thread nD τ) (Or c j.val) W
        ∗ dutyTok ER (sendCell c j) 0 0 ∗ reached ER (sendCell c j) 0
        ∗ dutyTok ER (recvCell (dest c j) j) 0 0 ∗ reached ER (recvCell (dest c j) j) 0)
      ⊢ iprop(((cred (tallyAt (sendCell c j) () N) ∗ owes (c : Thread nD τ) (Or c (j.val + 1)) W) -∗ runs c (k ⟨⟩) Q)
          -∗ runs c (.op (.enqueueDma (eOut c j) (.remote (Dev.tc n : Thread nD τ) (gMine c) (.dma (sendS j)) hsc) (.dma (recvS j)) hsrc hdst hsem) k) Q) := by
  subst hn
  exact Rounds.wp_send_pointsTo 𝒱₀ ER (sched X) (c : Thread nD τ) none (κ₁ := K (c, some (false, j))) (κ₂ := K (dest c j, some (true, j)))
    (r₁ := 0) (r₂ := 0) (d₁ := 0) (d₂ := 0) (fd := fd)
    (by rw [duties_send]; exact Finset.mem_singleton_self _) (by rw [duties_recv]; exact Finset.mem_singleton_self _)
    () () N rfl (amount_send X c j 0) (amount_recv X (dest c j) j 0) (Or c (j.val + 1)) (owing_step _ _ j) (W := W)
    (by rw [payload_send, eOut_set]; exact BI.Entails.refl _)
    (by
      rw [payload_recv, gMine_set]; unfold recvPay gPts; rw [show orig (dest c j) j = c from dest_rev c j]
      exact BIBase.Entails.of_eq (pointsTo_congr (landed X c j fd)))

theorem send_runs (W : Waits sig Unit) (j : Fin 15) :
    iprop(records X K ∗ owes (c : Thread nD τ) (Or c j.val) W ∗ toSend X c j)
      ⊢ runs c (send (F := F) c j) fun _ => iprop(owes (c : Thread nD τ) (Or c (j.val + 1)) W ∗ cred (tallyAt (sendCell c j) () N)) := by
  unfold toSend barPay ePts gPts send
  simp only [Prog.lift]
  rw [← eOut_set c j, ← gMine_set c]
  iintro ⟨#HR, HO, ⟨He, %fd, Hg⟩, Ht1, Ht2⟩
  iapply (wp_sendTo X K c (sendDev c j) j (sendDev_eq c j) W fd) $$ [He Hg HO Ht1 Ht2]
  · isplitr; · iapply (records_inv X K (c, some (false, j))); iexact HR
    isplitr; · iapply (records_inv X K (dest c j, some (true, j))); iexact HR
    isplitl [He]; · iexact He
    isplitl [Hg]; · iexact Hg
    isplitl [HO]; · iexact HO
    isplitl [Ht1]; · iexact Ht1
    isplitr; · iapply (records_reached X K (c, some (false, j))); iexact HR
    isplitl [Ht2]; · iexact Ht2
    iapply (records_reached X K (dest c j, some (true, j))); iexact HR
  iintro ⟨Hc, HO⟩
  iapply (runs_ret c)
  isplitl [HO] <;> iassumption

/-! ## The waits -/

/-- What is owed once every copy is out: nothing, whatever has been waited for. -/
def free : sProp 𝕄 := iprop(∃ W, owes (c : Thread nD τ) 0 W)

theorem recv_runs (j : Fin 15) :
    iprop(records X K ∗ free c ∗ (cred (tallyAt (recvCell c j) () N) ∗ atPos ER (recvCell c j) 0 ∅ 0))
      ⊢ runs c (recv (F := F) c j) fun _ => iprop(free c ∗ (gPts c (orig c j) (gath X c) ∗ semVal (recvCell c j) 0)) := by
  unfold recv free
  simp only [Prog.lift]
  iintro ⟨#HR, ⟨%W, HO⟩, Hcred, Hat⟩
  iapply (Rounds.wp_wait_rest_token 𝒱₀ ER (sched X) (c : Thread nD τ) none (κ := K (c, some (true, j)))
      (wpE_waitDma2_eq 𝒱₀ (c : Thread nD τ) none Set.univ) (Set.mem_univ _) () (O := 0) (W := W) (R := 0) (m := 0) (T := ∅)
      (by rw [Nat.zero_add, expect_recv])) $$ [HO Hcred Hat]
  · isplitr; · iapply (records_inv X K (c, some (true, j))); iexact HR
    isplitl [Hcred]; · iexact Hcred
    isplitl [HO]; · iexact HO
    isplitr; · rw [MayWait_zero]; iempintro
    iexact Hat
  iintro ⟨HO, Hat, -, Hpay⟩
  imod (Rounds.cell_close ER (sched X) (Set.mem_univ (K (c, some (true, j)))) (fun h => h) (R := 0 + 1) (duties_later X (recvCell c j))) $$ [Hat] with Hz
  · isplitr; · iapply (records_inv X K (c, some (true, j))); iexact HR
    iexact Hat
  rw [wp_ret]; imodintro
  isplitl [HO]; · iexists _; iexact HO
  isplitl [Hpay]; · iapply (Entails.of_eq (show _ = gPts c (orig c j) (gath X c) from rest_recv X c j)); iexact Hpay
  iexact Hz

theorem drain_runs (j : Fin 15) :
    iprop(records X K ∗ free c ∗ (cred (tallyAt (sendCell c j) () N) ∗ atPos ER (sendCell c j) 0 ∅ 0))
      ⊢ runs c (drain (F := F) c j) fun _ => iprop(free c ∗ (ePts X c (dest c j) ∗ semVal (sendCell c j) 0)) := by
  unfold drain free
  simp only [Prog.lift]
  iintro ⟨#HR, ⟨%W, HO⟩, Hcred, Hat⟩
  iapply (Rounds.wp_wait_rest_token 𝒱₀ ER (sched X) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, expect_send])) $$ [HO Hcred Hat]
  · isplitr; · iapply (records_inv X K (c, some (false, j))); iexact HR
    isplitl [Hcred]; · iexact Hcred
    isplitl [HO]; · iexact HO
    isplitr; · rw [MayWait_zero]; iempintro
    iexact Hat
  iintro ⟨HO, Hat, -, Hpay⟩
  imod (Rounds.cell_close ER (sched X) (Set.mem_univ (K (c, some (false, j)))) (fun h => h) (R := 0 + 1) (duties_later X (sendCell c j))) $$ [Hat] with Hz
  · isplitr; · iapply (records_inv X K (c, some (false, j))); iexact HR
    iexact Hat
  rw [wp_ret]; imodintro
  isplitl [HO]; · iexists _; iexact HO
  isplitl [Hpay]; · iapply (Entails.of_eq (show _ = ePts X c (dest c j) from rest_send X c j)); iexact Hpay
  iexact Hz

/-! ## The loops -/

theorem signals_run (W : Waits sig Unit) :
    iprop(records X K ∗ owes (c : Thread nD τ) (O₀ c) W ∗ bigSep Finset.univ (toSignal (F := F) c))
      ⊢ runs c (steps (signal (F := F) c) 15 0 rfl) fun _ => iprop(owes (c : Thread nD τ) (Or c 0) W) := by
  have h := runs_family c (signal (F := F) c) (records X K) (fun i => owes (c : Thread nD τ) (Ob c i) W) (toSignal c) (fun _ => iprop(emp))
    (signal_runs X K c W) rfl
  refine h.trans (runs_mono c fun _ => ?_)
  rw [show Ob c 15 = Or c 0 from owing_end _ _]
  iintro ⟨H, -⟩; iexact H

theorem sends_run (W : Waits sig Unit) :
    iprop(records X K ∗ owes (c : Thread nD τ) (Or c 0) W ∗ bigSep Finset.univ (toSend X c))
      ⊢ runs c (steps (send (F := F) c) 15 0 rfl) fun _ => iprop(free (F := F) c ∗ bigSep Finset.univ fun j => cred (tallyAt (sendCell c j) () N)) := by
  have h := runs_family c (send (F := F) c) (records X K) (fun i => owes (c : Thread nD τ) (Or c i) W) (toSend X c) (fun j => cred (tallyAt (sendCell c j) () N))
    (send_runs X K c W) rfl
  refine h.trans (runs_mono c fun _ => ?_)
  rw [show Or c 15 = 0 from owing_end _ _]
  unfold free
  iintro ⟨H, H'⟩; isplitl [H]; · iexists _; iexact H
  iexact H'

theorem recvs_run :
    iprop(records X K ∗ free c ∗ bigSep Finset.univ fun j => iprop(cred (tallyAt (recvCell c j) () N) ∗ atPos ER (recvCell c j) 0 ∅ 0))
      ⊢ runs c (steps (recv (F := F) c) 15 0 rfl) fun _ => iprop(free c ∗ bigSep Finset.univ fun j => iprop(gPts c (orig c j) (gath X c) ∗ semVal (recvCell c j) 0)) :=
  runs_family c (recv (F := F) c) (records X K) (fun _ => free c) (fun j => iprop(cred (tallyAt (recvCell c j) () N) ∗ atPos ER (recvCell c j) 0 ∅ 0))
    (fun j => iprop(gPts c (orig c j) (gath X c) ∗ semVal (recvCell c j) 0)) (recv_runs X K c) rfl

theorem drains_run :
    iprop(records X K ∗ free c ∗ bigSep Finset.univ fun j => iprop(cred (tallyAt (sendCell c j) () N) ∗ atPos ER (sendCell c j) 0 ∅ 0))
      ⊢ runs c (steps (drain (F := F) c) 15 0 rfl) fun _ => iprop(free c ∗ bigSep Finset.univ fun j => iprop(ePts X c (dest c j) ∗ semVal (sendCell c j) 0)) :=
  runs_family c (drain (F := F) c) (records X K) (fun _ => free c) (fun j => iprop(cred (tallyAt (sendCell c j) () N) ∗ atPos ER (sendCell c j) 0 ∅ 0))
    (fun j => iprop(ePts X c (dest c j) ∗ semVal (sendCell c j) 0)) (drain_runs X K c) rfl

end Cert.AllToAll

end
-- ==== Proof.Chunks.lean ====
/-
  What the device does by itself: the weight blocks' copies, the cast of its columns, its own block, the column chunks.
-/
module

public import proofs.«01_k».proof.Proof.Talk

@[expose] public section

noncomputable section

namespace Cert.AllToAll

open Cert.KernelIdeal Cert.KernelIdeal.Gen
open Idealize.ShloMosaic Idealize.ShloMosaic.TcCoe Idealize.ShloMosaic.ValueIdx
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EC : UEmb Counters (MT nD τ sig Unit (Elt F) ℕ UU ℕ) := countersEmb (U := UU)

variable (X : Dev nD → S4096x256.Idx → Elt F .f32) (V : S4096x8192.Idx → Elt F .f32) (c : Dev nD)

theorem hz : (![0, 0] : Fin 2 → Nat) = fun _ => 0 := funext fun a => by fin_cases a <;> rfl

/-! ## The weight blocks' copies -/

/-- Part `p` of the weights. -/
def wPart (p : Fin 32 × Fin 2) : sProp 𝕄 := ((c : Thread nD τ).loc main_arg1) ↦[wSet p]{fullShare} V
/-- Half `r` of slot `s`, at `f`. -/
def bPart (p : Fin 4 × Fin 2) (f : S4x4096x256.Idx → Elt F .f32) : sProp 𝕄 := ((c : Thread nD τ).loc cc0_scratch2) ↦[bSet p]{fullShare} f

theorem wS_slot : ∀ (k : Fin 32) (r : Fin 2), wS k r = wS (early (slot k.val)) r := by decide +kernel

/-- Half `r` of slot `s` with nothing under way into it. -/
def idleHalf (s : Fin 4) (r : Fin 2) : sProp 𝕄 := iprop((∃ f, bPart c (s, r) f) ∗ semVal ((c : Thread nD τ), .dma (wS (early s) r)) 0)
def idle (s : Fin 4) : sProp 𝕄 := iprop(idleHalf c s 0 ∗ idleHalf c s 1)
/-- Chunk `k`'s part of the weights. -/
def src (k : Fin 32) : sProp 𝕄 := iprop(wPart V c (k, 0) ∗ wPart V c (k, 1))

abbrev M : ℕ := (bHalf 0 0).view.dmaCredit
theorem M_pos : 0 < M := View.dmaCredit_pos _ (by decide)

/-- Half `r` of chunk `k`'s block under way. -/
def flying (k : Fin 32) (r : Fin 2) : sProp 𝕄 :=
  Flight EC (c : Thread nD τ) (.dma (wS k r)) () M iprop(bPart c (slot k.val, r) (wSlot V k) ∗ wPart V c (k, r))

theorem fetch_runs (k : Fin 32) (r : Fin 2) :
    iprop(idleHalf c (slot k.val) r ∗ wPart V c (k, r)) ⊢ runs c (fetch (F := F) k r) fun _ => flying V c k r := by
  unfold fetch idleHalf wPart bPart
  simp only [Prog.lift]
  rw [← wS_slot k r, ← bHalf_set k r, ← wHalf_set k r]
  iintro ⟨⟨⟨%f, Hb⟩, Hs⟩, Hw⟩
  iapply (wp_dmaLocal EC 𝒱₀ (c : Thread nD τ) none (src := wHalf k r) (dst := bHalf k r) (q := fullShare) (fs := V) (fd := f) () M rfl M_pos subset_rfl) $$ [Hb Hs Hw]
  · isplitl [Hw]; · iexact Hw
    isplitl [Hb] <;> iassumption
  iintro Hf
  iapply (runs_ret c)
  unfold flying bPart wPart
  iapply (Flight_mono EC (c : Thread nD τ) ?_) $$ Hf
  rw [bHalf_set, wHalf_set]
  iintro ⟨H1, H2⟩
  isplitl [H1]
  · iapply (Entails.of_eq (pointsTo_congr (fetched V k r f))); iexact H1
  · iexact H2

theorem arrive_runs (k : Fin 32) (r : Fin 2) :
    iprop(flying V c k r ∗ free c) ⊢ runs c (arrive (F := F) k r) fun _ =>
      iprop((bPart c (slot k.val, r) (wSlot V k) ∗ semVal ((c : Thread nD τ), .dma (wS (early (slot k.val)) r)) 0) ∗ wPart V c (k, r) ∗ free c) := by
  unfold arrive free flying
  simp only [Prog.lift]
  rw [← wS_slot k r]
  iintro ⟨Hf, %W, HO⟩
  iapply (wp_waitLocal EC 𝒱₀ (c : Thread nD τ) none () rfl) $$ [Hf HO]
  · isplitl [Hf] <;> iassumption
  iintro ⟨⟨Hb, Hw⟩, Hs, HO⟩
  iapply (runs_ret c)
  isplitl [Hb Hs]; · isplitl [Hb] <;> iassumption
  isplitl [Hw]; · iexact Hw
  iexists _; iexact HO

/-- Chunk number `k`'s block under way, or, past the last chunk, its slot idle. -/
def Fl (k : ℕ) : sProp 𝕄 := if h : k < 32 then iprop(flying V c ⟨k, h⟩ 0 ∗ flying V c ⟨k, h⟩ 1) else idle c (slot k)

theorem Fl_of (k : Fin 32) : Fl V c k.val = iprop(flying V c k 0 ∗ flying V c k 1) := dif_pos k.isLt
theorem Fl_past (k : ℕ) (h : ¬ k < 32) : Fl V c k = idle c (slot k) := dif_neg h

theorem fetches_runs (k : Fin 32) : iprop(idle c (slot k.val) ∗ src V c k) ⊢ runs c (fetches (F := F) k) fun _ => Fl V c k.val := by
  unfold fetches idle src
  rw [Fl_of, runs_bind]
  iintro ⟨⟨Ha, Hb⟩, Hc, Hd⟩
  iapply (runs_wand c (Q := fun _ => flying V c k 0))
  isplitl [Ha Hc]
  · iapply (fetch_runs V c k 0); isplitl [Ha] <;> iassumption
  iintro %u H0
  iapply (runs_wand c (Q := fun _ => flying V c k 1))
  isplitl [Hb Hd]
  · iapply (fetch_runs V c k 1); isplitl [Hb] <;> iassumption
  iintro %u H1
  isplitl [H0] <;> iassumption

theorem slot_add (k : ℕ) : slot (k + 4) = slot k := Fin.ext (Nat.add_mod_right k 4)

theorem ahead_runs (k : Fin 32) : iprop(idle c (slot k.val) ∗ rest (src V c) (k.val + 4)) ⊢ runs c (ahead (F := F) k) fun _ =>
    iprop(Fl V c (k.val + 4) ∗ rest (src V c) (k.val + 4 + 1)) := by
  unfold ahead
  split
  · next h =>
    have e : rest (src V c) (k.val + 4) = _ := rest_step (src V c) ⟨k.val + 4, h⟩
    rw [e, ← slot_add]
    iintro ⟨Hi, Hs, Hr⟩
    iapply (runs_wand c (Q := fun _ => Fl V c (k.val + 4)))
    isplitl [Hi Hs]
    · iapply (fetches_runs V c ⟨k.val + 4, h⟩); isplitl [Hi] <;> iassumption
    iintro %u H
    isplitl [H] <;> iassumption
  · next h =>
    rw [Fl_past V c _ h, slot_add, rest_end _ (by omega), rest_end _ (by omega)]
    iintro H
    iapply (runs_ret c); iexact H

theorem upto_four (Φ : Fin 4 → sProp 𝕄) : upto Φ 4 = iprop(Φ 3 ∗ Φ 2 ∗ Φ 1 ∗ Φ 0 ∗ emp) := by
  have h3 : upto Φ 4 = _ := upto_step Φ 3
  have h2 : upto Φ (3 : Fin 4).val = _ := upto_step Φ 2
  have h1 : upto Φ (2 : Fin 4).val = _ := upto_step Φ 1
  have h0 : upto Φ (1 : Fin 4).val = _ := upto_step Φ 0
  have hz : upto Φ (0 : Fin 4).val = _ := upto_zero Φ
  rw [h3, h2, h1, h0, hz]

/-- The first four. -/
theorem early_run : iprop((bigSep Finset.univ fun s : Fin 4 => idle (F := F) c s) ∗ bigSep Finset.univ (src V c))
    ⊢ runs c (steps (fun i : Fin 4 => fetches (F := F) (early i)) 4 0 rfl) fun _ =>
      iprop((Fl V c 0 ∗ Fl V c 1 ∗ Fl V c 2 ∗ Fl V c 3) ∗ rest (src V c) 4) := by
  have key := runs_steps c (fun i : Fin 4 => fetches (F := F) (early i))
    (fun i => iprop(rest (fun s : Fin 4 => idle (F := F) c s) i ∗ rest (src V c) i ∗ upto (fun i : Fin 4 => Fl V c i.val) i)) (fun i => by
      have e : rest (src V c) i.val = _ := rest_step (src V c) (early i)
      rw [rest_step, upto_step, e]
      iintro ⟨⟨Hi, Hr⟩, ⟨Hs, Hrs⟩, Hu⟩
      iapply (runs_wand c (Q := fun _ => Fl V c i.val))
      isplitl [Hi Hs]
      · iapply (fetches_runs V c (early i))
        rw [show slot (early i).val = i from Fin.ext (Nat.mod_eq_of_lt i.isLt)]
        isplitl [Hi] <;> iassumption
      iintro %u H
      isplitl [Hr]; · iexact Hr
      isplitl [Hrs]; · iexact Hrs
      isplitl [H] <;> iassumption) 4 0 rfl
  rw [rest_zero, rest_zero, upto_zero] at key
  refine BIBase.Entails.trans ?_ (key.trans (runs_mono c fun _ => ?_))
  · iintro ⟨Ha, Hb⟩
    isplitl [Ha]; · iexact Ha
    isplitl [Hb]; · iexact Hb
    iempintro
  · rw [show upto (fun i : Fin 4 => Fl V c i.val) 4 = iprop(Fl V c 3 ∗ Fl V c 2 ∗ Fl V c 1 ∗ Fl V c 0 ∗ emp) from upto_four _]
    iintro ⟨-, Hr, H3, H2, H1, H0, -⟩
    isplitr [Hr]; swap; · iexact Hr
    isplitl [H0]; · iexact H0
    isplitl [H1]; · iexact H1
    isplitl [H2] <;> iassumption

/-! ## The cast of the device's columns, and its own block -/

theorem castX_runs (x : S4096x256.Idx → Elt F .f32) :
    iprop((((c : Thread nD τ).loc cc0_stg0_0) ↦{fullShare} x) ∗ ∃ f, ((c : Thread nD τ).loc cc0_scratch0) ↦{fullShare} f)
      ⊢ runs (F := F) c castX fun _ => iprop((((c : Thread nD τ).loc cc0_stg0_0) ↦{fullShare} x) ∗ ((c : Thread nD τ).loc cc0_scratch0) ↦{fullShare} cast8 x) := by
  unfold castX
  simp only [Prog.lift, Prog.bind_op, Prog.bind_ret, bind]
  iintro ⟨Hx, %f, He⟩
  iapply (wp_load 𝒱₀ (c : Thread nD τ) none Set.univ (m := xM) (Finset.subset_univ _)) $$ Hx; iintro Hx
  iapply (wp_load 𝒱₀ (c : Thread nD τ) none Set.univ (m := eM) (Finset.subset_univ _)) $$ He; iintro He
  iapply (wp_store 𝒱₀ (c : Thread nD τ) none Set.univ (m := eM) (r := rE) (Mk := Finset.univ) (Finset.subset_univ _)) $$ He; iintro He
  rw [show (xM : Memref sig .tc .vmem S4096x256 .f32).view.readAt (Elt F) rE.toLoadRect x = x from Memref.readAt_unit_zero (Elt F) cc0_stg0_0 hz _ x,
    show ((eM : Memref sig .tc .vmem S4096x256 .fp8e4m3).access rE : View sig .tc _ _ _).write (Elt F) f (k0_pay2 (k0_pay1 x)) Finset.univ = cast8 x from
      Memref.write_access_unit_zero_univ (Elt F) cc0_scratch0 hz _ f _]
  iapply (runs_ret c)
  isplitl [Hx] <;> iassumption

theorem ownBlock_runs : iprop(ePts X c c ∗ ∃ f, gPts c c f) ⊢ runs (F := F) c (ownBlock c) fun _ => iprop(ePts X c c ∗ gPts c c (gath X c)) := by
  unfold ownBlock ePts gPts
  simp only [Prog.lift, Prog.bind_op, Prog.bind_ret, bind]
  iintro ⟨He, %f, Hg⟩
  iapply (wp_load 𝒱₀ (c : Thread nD τ) none Set.univ (m := eM) (S := eSet c) (by rw [ownE_set])) $$ He; iintro He
  iapply (wp_load_rect 𝒱₀ (c : Thread nD τ) none Set.univ (m := gM) (r := rOwnG c) (S := gSet c) (by rw [ownG_set])) $$ Hg; iintro Hg
  iapply (wp_store 𝒱₀ (c : Thread nD τ) none Set.univ (m := gM) (r := rOwnG c) (Mk := Finset.univ) (S := gSet c) (by rw [← ownG_set]; exact subset_rfl)) $$ Hg; iintro Hg
  iapply (runs_ret c)
  isplitl [He]; · iexact He
  iapply (Entails.of_eq (pointsTo_congr (landedOwn X c f))); iexact Hg

/-! ## The column chunks -/

theorem castW_runs (k : Fin 32) :
    iprop((bPart c (slot k.val, 0) (wSlot V k) ∗ bPart c (slot k.val, 1) (wSlot V k)) ∗ ∃ f, ((c : Thread nD τ).loc cc0_scratch3) ↦{fullShare} f)
      ⊢ runs (F := F) c (castW k) fun _ => iprop((bPart c (slot k.val, 0) (wSlot V k) ∗ bPart c (slot k.val, 1) (wSlot V k))
          ∗ ((c : Thread nD τ).loc cc0_scratch3) ↦{fullShare} wCast V k) := by
  unfold castW bPart
  simp only [Prog.lift, Prog.bind_op, Prog.bind_ret, bind]
  have hd : Disjoint (bSet (slot k.val, 0)) (bSet (slot k.val, 1)) := bSet_disjoint fun h => absurd (congrArg Prod.snd h) (by decide : (0 : Fin 2) ≠ 1)
  iintro ⟨Hb, %f, Hv⟩
  ihave Hb := (pointsTo_union hd).2 $$ Hb
  iapply (wp_load 𝒱₀ (c : Thread nD τ) none Set.univ (m := bM) (slot_set k)) $$ Hb; iintro Hb
  iapply (wp_load 𝒱₀ (c : Thread nD τ) none Set.univ (m := vM) (Finset.subset_univ _)) $$ Hv; iintro Hv
  iapply (wp_store 𝒱₀ (c : Thread nD τ) none Set.univ (m := vM) (r := rE) (Mk := Finset.univ) (Finset.subset_univ _)) $$ Hv; iintro Hv
  rw [show ((vM : Memref sig .tc .vmem S4096x256 .fp8e5m2).access rE : View sig .tc _ _ _).write (Elt F) f
      (k0_pay5 ((bM : Memref sig .tc .vmem S4x4096x256 .f32).view.readAt (Elt F) (rSlot k).toLoadRect (wSlot V k))) Finset.univ = wCast V k from
      Memref.write_access_unit_zero_univ (Elt F) cc0_scratch3 hz _ f _]
  iapply (runs_ret c)
  ihave Hb := (pointsTo_union hd).1 $$ Hb
  isplitl [Hb] <;> iassumption

theorem product_eq (s : F .f32) (k : Fin 32) (x : S256x256.Idx) : k0_pay6 s (gath X c) (wCast V k) x
    = outAt X V s c (ix2 (n0 := 256) (n1 := 8192) ⟨(x 0).val, (x 0).isLt⟩ ⟨256 * k.val + (x 1).val, by have : (x 1).val < 256 := (x 1).isLt; have := k.isLt; omega⟩) := by
  have h1 : (x 1).val < 256 := (x 1).isLt
  unfold outAt
  rw [show chunkOf (ix2 (n0 := 256) (n1 := 8192) ⟨(x 0).val, (x 0).isLt⟩ ⟨256 * k.val + (x 1).val, by have := k.isLt; omega⟩) = k from Fin.ext (by
    show (256 * k.val + (x 1).val) / 256 = k.val; omega)]
  congr 1
  refine funext fun a => Fin.ext ?_
  fin_cases a
  · rfl
  · show (x 1).val = (256 * k.val + (x 1).val) % 256; omega

theorem product_runs (s : F .f32) (f : S256x8192.Idx → Elt F .f32) (k : Fin 32) :
    iprop((((c : Thread nD τ).loc cc0_scratch1) ↦{fullShare} gath X c) ∗ (((c : Thread nD τ).loc cc0_scratch3) ↦{fullShare} wCast V k)
        ∗ ((c : Thread nD τ).loc cc0_stg3_0) ↦{fullShare} outTo (outAt X V s c) f k.val)
      ⊢ runs (F := F) c (product s k) fun _ => iprop((((c : Thread nD τ).loc cc0_scratch1) ↦{fullShare} gath X c)
          ∗ (((c : Thread nD τ).loc cc0_scratch3) ↦{fullShare} wCast V k)
          ∗ ((c : Thread nD τ).loc cc0_stg3_0) ↦{fullShare} outTo (outAt X V s c) f (k.val + 1)) := by
  unfold product
  simp only [Prog.lift, Prog.bind_op, Prog.bind_ret, bind]
  iintro ⟨Hg, Hv, Ho⟩
  iapply (wp_load 𝒱₀ (c : Thread nD τ) none Set.univ (m := gM) (Finset.subset_univ _)) $$ Hg; iintro Hg
  iapply (wp_load 𝒱₀ (c : Thread nD τ) none Set.univ (m := vM) (Finset.subset_univ _)) $$ Hv; iintro Hv
  iapply (wp_load 𝒱₀ (c : Thread nD τ) none Set.univ (m := oM) (Finset.subset_univ _)) $$ Ho; iintro Ho
  iapply (wp_store 𝒱₀ (c : Thread nD τ) none Set.univ (m := oM) (r := rO k) (Mk := Finset.univ) (Finset.subset_univ _)) $$ Ho; iintro Ho
  rw [show (gM : Memref sig .tc .vmem S256x4096 .fp8e4m3).view.readAt (Elt F) rG.toLoadRect (gath X c) = gath X c from Memref.readAt_unit_zero (Elt F) cc0_scratch1 hz _ _,
    show (vM : Memref sig .tc .vmem S4096x256 .fp8e5m2).view.readAt (Elt F) rE.toLoadRect (wCast V k) = wCast V k from Memref.readAt_unit_zero (Elt F) cc0_scratch3 hz _ _,
    stored (outAt X V s c) f k _ (product_eq X V c s k)]
  iapply (runs_ret c)
  isplitl [Hg]; · iexact Hg
  isplitl [Hv] <;> iassumption

/-- Before chunk `k`: the gathered rows, the first `k` chunks of the result, four chunks' blocks under way. -/
def before (s : F .f32) (f : S256x8192.Idx → Elt F .f32) (k : ℕ) : sProp 𝕄 :=
  iprop(free c ∗ (((c : Thread nD τ).loc cc0_scratch1) ↦{fullShare} gath X c) ∗ (∃ f, ((c : Thread nD τ).loc cc0_scratch3) ↦{fullShare} f)
    ∗ (((c : Thread nD τ).loc cc0_stg3_0) ↦{fullShare} outTo (outAt X V s c) f k)
    ∗ (Fl V c k ∗ Fl V c (k + 1) ∗ Fl V c (k + 2) ∗ Fl V c (k + 3)) ∗ rest (src V c) (k + 4) ∗ upto (src V c) k)

theorem chunk_runs (s : F .f32) (f : S256x8192.Idx → Elt F .f32) (k : Fin 32) :
    before X V c s f k.val ⊢ runs (F := F) c (chunk s k) fun _ => before X V c s f (k.val + 1) := by
  unfold before chunk
  rw [Fl_of, upto_step]
  simp only [runs_bind]
  iintro ⟨Hf, Hg, Hv, Ho, ⟨⟨Ha, Hb⟩, H1, H2, H3⟩, Hr, Hu⟩
  iapply (runs_wand c)
  isplitl [Ha Hf]
  · iapply (arrive_runs V c k 0); isplitl [Ha] <;> iassumption
  iintro %u ⟨⟨Hb0, Hs0⟩, Hw0, Hf⟩
  iapply (runs_wand c)
  isplitl [Hb Hf]
  · iapply (arrive_runs V c k 1); isplitl [Hb] <;> iassumption
  iintro %u ⟨⟨Hb1, Hs1⟩, Hw1, Hf⟩
  iapply (runs_wand c)
  isplitl [Hb0 Hb1 Hv]
  · iapply (castW_runs V c k)
    isplitr [Hv]; · isplitl [Hb0] <;> iassumption
    iexact Hv
  iintro %u ⟨⟨Hb0, Hb1⟩, Hv⟩
  iapply (runs_wand c)
  isplitl [Hb0 Hs0 Hb1 Hs1 Hr]
  · iapply (ahead_runs V c k)
    isplitr [Hr]; swap; · iexact Hr
    unfold idle idleHalf
    isplitl [Hb0 Hs0]
    · isplitl [Hb0]; · iexists _; iexact Hb0
      iexact Hs0
    · isplitl [Hb1]; · iexists _; iexact Hb1
      iexact Hs1
  iintro %u ⟨H4, Hr⟩
  iapply (runs_wand c)
  isplitl [Hg Hv Ho]
  · iapply (product_runs X V c s f k)
    isplitl [Hg]; · iexact Hg
    isplitl [Hv] <;> iassumption
  iintro %u ⟨Hg, Hv, Ho⟩
  isplitl [Hf]; · iexact Hf
  isplitl [Hg]; · iexact Hg
  isplitl [Hv]; · iexists _; iexact Hv
  isplitl [Ho]; · iexact Ho
  isplitl [H1 H2 H3 H4]
  · isplitl [H1]; · iexact H1
    isplitl [H2]; · iexact H2
    isplitl [H3] <;> iassumption
  isplitl [Hr]; · iexact Hr
  isplitl [Hw0 Hw1]
  · unfold src; isplitl [Hw0] <;> iassumption
  iexact Hu

/-- All of them. -/
theorem chunks_run (s : F .f32) (f : S256x8192.Idx → Elt F .f32) :
    before X V c s f 0 ⊢ runs (F := F) c (steps (chunk s) 32 0 rfl) fun _ => before X V c s f 32 :=
  runs_steps c (chunk s) (before X V c s f) (chunk_runs X V c s f) 32 0 rfl

end Cert.AllToAll

end
-- ==== Proof.Body.lean ====
/-
  The whole body at device `c`: from what the launch deals it, through its seven parts, to what it leaves.
-/
module

public import proofs.«01_k».proof.Proof.Chunks

@[expose] public section

noncomputable section

namespace Cert.AllToAll

open Cert.KernelIdeal Cert.KernelIdeal.Gen
open Idealize.ShloMosaic Idealize.ShloMosaic.TcCoe Idealize.ShloMosaic.ValueIdx
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x256.Idx → Elt F .f32) (V : S4096x8192.Idx → Elt F .f32) (K : Dev nD × Cell → ℕ) (c : Dev nD)

/-! ## The buffers in parts -/

theorem bigSep_devs (Φ : Dev nD → sProp 𝕄) : bigSep Finset.univ Φ = iprop(Φ c ∗ bigSep Finset.univ fun j : Fin 15 => Φ (dest c j)) := by
  have e : (Finset.univ : Finset (Dev nD)) = insert c (Finset.univ.map ⟨dest c, fun i j h => dest_inj c i j h⟩) := by
    ext t
    simp only [Finset.mem_univ, Finset.mem_insert, Finset.mem_map, true_and, Function.Embedding.coeFn_mk, true_iff]
    by_cases h : t = c
    · exact Or.inl h
    · exact Or.inr (dest_surj c t h)
  rw [e, bigSep_insert (by
    simp only [Finset.mem_map, Finset.mem_univ, true_and, Function.Embedding.coeFn_mk, not_exists]; exact fun j => dest_ne c j), bigSep_map]
  rfl

theorem bigSep_rev (Φ : Fin 15 → sProp 𝕄) : bigSep Finset.univ Φ = bigSep Finset.univ fun j : Fin 15 => Φ j.rev := bigSep_univ_equiv Fin.revPerm Φ

theorem g_parts (f : S256x4096.Idx → Elt F .fp8e4m3) :
    ((((c : Thread nD τ).loc cc0_scratch1) ↦{fullShare} f) : sProp 𝕄) = iprop(gPts c c f ∗ bigSep Finset.univ fun j : Fin 15 => gPts c (dest c j) f) :=
  (pointsTo_parts ((c : Thread nD τ).loc cc0_scratch1) colOf fullShare f).trans (bigSep_devs c fun t => gPts c t f)

theorem e_parts : ((((c : Thread nD τ).loc cc0_scratch0) ↦{fullShare} cast8 (X c)) : sProp 𝕄)
    = iprop(ePts X c c ∗ bigSep Finset.univ fun j : Fin 15 => ePts X c (dest c j)) :=
  (pointsTo_parts ((c : Thread nD τ).loc cc0_scratch0) rowOf fullShare (cast8 (X c))).trans (bigSep_devs c fun t => ePts X c t)

theorem bigSep_two (Φ : Fin 2 → sProp 𝕄) : bigSep Finset.univ Φ = iprop(Φ 0 ∗ Φ 1) := bigSep_univ_eq_bigSepL [0, 1] (by decide) (by decide) Φ
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

theorem w_parts : ((((c : Thread nD τ).loc main_arg1) ↦{fullShare} V) : sProp 𝕄) = bigSep Finset.univ (src V c) := by
  rw [pointsTo_parts ((c : Thread nD τ).loc main_arg1) wOf fullShare V, bigSep_univ_prod]
  exact bigSep_congr fun k _ => bigSep_two _

/-- The slots' semaphores at zero. -/
def wSems : sProp 𝕄 := bigSep Finset.univ fun s : Fin 4 => iprop(semVal ((c : Thread nD τ), .dma (wS (early s) 0)) 0 ∗ semVal ((c : Thread nD τ), .dma (wS (early s) 1)) 0)

theorem swap_to (P Q R S : sProp 𝕄) : iprop((P ∗ Q) ∗ R ∗ S) ⊢ (iprop((P ∗ R) ∗ Q ∗ S) : sProp 𝕄) := by
  iintro ⟨⟨H1, H2⟩, H3, H4⟩
  isplitl [H1 H3]
  · isplitl [H1] <;> iassumption
  · isplitl [H2] <;> iassumption

theorem swap_mid (P Q R S : sProp 𝕄) : iprop((P ∗ Q) ∗ R ∗ S) = iprop((P ∗ R) ∗ Q ∗ S) :=
  Idealize.SL.BI.Entails.antisymm (swap_to P Q R S) (swap_to P R Q S)

theorem bigSep_some {I A : Type} [DecidableEq I] (S : Finset I) (Φ : I → A → sProp 𝕄) (a : A) :
    bigSep S (fun i => Φ i a) ⊢ bigSep S fun i => iprop(∃ a, Φ i a) :=
  bigSep_mono fun i _ => by
    show Φ i a ⊢ (iprop(∃ a, Φ i a) : sProp 𝕄)
    iintro H; iexists a; iexact H

theorem idle_split : (bigSep Finset.univ (idle (F := F) c) : sProp 𝕄)
    = iprop((bigSep Finset.univ fun s : Fin 4 => iprop((∃ f, bPart c (s, 0) f) ∗ ∃ f, bPart c (s, 1) f)) ∗ wSems c) := by
  unfold wSems
  rw [← bigSep_sep']
  refine bigSep_congr fun s _ => ?_
  unfold idle idleHalf
  exact swap_mid _ _ _ _

theorem b_parts : (bigSep Finset.univ fun s : Fin 4 => iprop((∃ f, bPart (F := F) c (s, 0) f) ∗ ∃ f, bPart c (s, 1) f))
    = bigSep Finset.univ fun p : Fin 4 × Fin 2 => iprop(∃ f, bPart (F := F) c p f) := by
  rw [bigSep_univ_prod]
  exact bigSep_congr fun s _ => (bigSep_two fun r => iprop(∃ f, bPart (F := F) c (s, r) f)).symm

theorem idle_of : iprop((∃ f, ((c : Thread nD τ).loc cc0_scratch2) ↦{fullShare} f) ∗ wSems (F := F) c) ⊢ bigSep Finset.univ (idle (F := F) c) := by
  rw [idle_split, b_parts]
  iintro ⟨⟨%f, Hb⟩, Hs⟩
  isplitl [Hb]
  · ihave Hb := (Entails.of_eq (pointsTo_parts ((c : Thread nD τ).loc cc0_scratch2) slotOf fullShare f)) $$ Hb
    iapply (bigSep_some Finset.univ (fun (p : Fin 4 × Fin 2) f => bPart c p f) f); iexact Hb
  · iexact Hs

theorem of_idle : bigSep Finset.univ (idle (F := F) c) ⊢ iprop((∃ f, ((c : Thread nD τ).loc cc0_scratch2) ↦{fullShare} f) ∗ wSems (F := F) c) := by
  rw [idle_split, b_parts]
  iintro ⟨Hb, Hs⟩
  isplitl [Hb]
  · iapply (pointsTo_parts_any ((c : Thread nD τ).loc cc0_scratch2) slotOf fullShare); iexact Hb
  · iexact Hs

/-! ## The scales -/

/-- The element of a scale. -/
def elt1 (f : S1.Idx → Elt F .f32) : Elt F .f32 := f (Shape.Idx.first Nat.one_pos)

theorem idx1 (x y : S1.Idx) : x = y := funext fun a => Fin.ext (by
  fin_cases a
  have h1 : (x 0).val < 1 := (x 0).isLt
  have h2 : (y 0).val < 1 := (y 0).isLt
  show (x 0).val = (y 0).val
  omega)

theorem sx_runs (f : S1.Idx → Elt F .f32) : (((c : Thread nD τ).loc cc0_stg1_0) ↦{fullShare} f)
    ⊢ runs (F := F) c (smemLoad sxM (Rect.unit (s := S1) ![0] S1.size inb_S1_S1_0) numel1_S1 rfl) fun a =>
      iprop(⌜a = elt1 f⌝ ∗ ((c : Thread nD τ).loc cc0_stg1_0) ↦{fullShare} f) := by
  unfold smemLoad
  iintro H
  iapply (wp_smemLoadElt 𝒱₀ (c : Thread nD τ) none Set.univ (m := sxM) (r := Rect.unit (s := S1) ![0] S1.size inb_S1_S1_0) (S := Finset.univ) (f := f) (q := fullShare) (Finset.subset_univ _)) $$ H; iintro H
  iapply (runs_ret c)
  isplitr; · ipureintro; exact congrArg f (idx1 _ _)
  iexact H

theorem sw_runs (f : S1.Idx → Elt F .f32) : (((c : Thread nD τ).loc cc0_stg2_0) ↦{fullShare} f)
    ⊢ runs (F := F) c (smemLoad swM (Rect.unit (s := S1) ![0] S1.size inb_S1_S1_0) numel1_S1 rfl) fun a =>
      iprop(⌜a = elt1 f⌝ ∗ ((c : Thread nD τ).loc cc0_stg2_0) ↦{fullShare} f) := by
  unfold smemLoad
  iintro H
  iapply (wp_smemLoadElt 𝒱₀ (c : Thread nD τ) none Set.univ (m := swM) (r := Rect.unit (s := S1) ![0] S1.size inb_S1_S1_0) (S := Finset.univ) (f := f) (q := fullShare) (Finset.subset_univ _)) $$ H; iintro H
  iapply (runs_ret c)
  isplitr; · ipureintro; exact congrArg f (idx1 _ _)
  iexact H

/-! ## The body -/

/-- The device's places in its cells' rounds. -/
def places : sProp 𝕄 :=
  iprop(atPos ER (barCell c) 0 ∅ 0 ∗ (bigSep Finset.univ fun j : Fin 15 => atPos ER (sendCell c j) 0 ∅ 0)
    ∗ bigSep Finset.univ fun j : Fin 15 => atPos ER (recvCell c j) 0 ∅ 0)
/-- The tokens of the duties it pays. -/
def pays : sProp 𝕄 :=
  iprop((bigSep Finset.univ fun j : Fin 15 => dutyTok ER (barCell (dest c j)) 0 j.rev) ∗ (bigSep Finset.univ fun j : Fin 15 => dutyTok ER (sendCell c j) 0 0)
    ∗ bigSep Finset.univ fun j : Fin 15 => dutyTok ER (recvCell (dest c j) j) 0 0)
/-- Its credit at launch. -/
def credits : sProp 𝕄 :=
  iprop(cred (tallyAt (barCell c) () 15) ∗ bigSep Finset.univ fun j : Fin 15 => cred (tallyAt (recvCell c j) () N))
/-- Its kernel's buffers, at any contents. -/
def scratch : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ ∃ f, ((c : Thread nD τ).loc cc0_scratch3) ↦{fullShare} f)
/-- The semaphores at zero. -/
def sems : sProp 𝕄 :=
  iprop(semVal (barCell c) 0 ∗ (bigSep Finset.univ fun j : Fin 15 => semVal (sendCell c j) 0) ∗ (bigSep Finset.univ fun j : Fin 15 => semVal (recvCell c j) 0)
    ∗ wSems c)

set_option maxHeartbeats 1600000 in
theorem bodyAt_runs (W : Waits sig Unit) (sx sw : S1.Idx → Elt F .f32) (o : S256x8192.Idx → Elt F .f32) :
    iprop(records X K ∗ levAts L lv ∗ places c ∗ pays c ∗ credits c ∗ scratch c ∗ wSems c ∗ (((c : Thread nD τ).loc main_arg1) ↦{fullShare} V)
        ∗ owes (c : Thread nD τ) (O₀ c) W ∗ (((c : Thread nD τ).loc cc0_stg0_0) ↦{fullShare} X c) ∗ (((c : Thread nD τ).loc cc0_stg1_0) ↦{fullShare} sx)
        ∗ (((c : Thread nD τ).loc cc0_stg2_0) ↦{fullShare} sw) ∗ ((c : Thread nD τ).loc cc0_stg3_0) ↦{fullShare} o)
      ⊢ runs (F := F) c (bodyAt c) fun _ => iprop(scratch c ∗ sems c ∗ (((c : Thread nD τ).loc main_arg1) ↦{fullShare} V)
        ∗ free c ∗ (((c : Thread nD τ).loc cc0_stg0_0) ↦{fullShare} X c) ∗ (((c : Thread nD τ).loc cc0_stg1_0) ↦{fullShare} sx)
        ∗ (((c : Thread nD τ).loc cc0_stg2_0) ↦{fullShare} sw) ∗ ((c : Thread nD τ).loc cc0_stg3_0) ↦{fullShare} outAt X V (k0_pay4 (elt1 sx) (elt1 sw)) c) := by
  unfold bodyAt places pays credits scratch
  simp only [runs_bind]
  iintro ⟨#HR, #Hlev, ⟨HaB, HaS, HaV⟩, ⟨HtB, HtS, HtV⟩, ⟨HcB, HcV⟩, ⟨He, ⟨%g, Hg⟩, Hb, Hv⟩, Hws, Hw, HO, Hx, Hsx, Hsw, Ho⟩
  ihave Hg := (Entails.of_eq (g_parts c g)) $$ Hg
  icases Hg with ⟨Hgc, Hg⟩
  -- the signals
  iapply (runs_wand c)
  isplitl [HO HtB Hg]
  · iapply (signals_run X K c W)
    isplitr; · iexact HR
    isplitl [HO]; · iexact HO
    unfold toSignal
    rw [bigSep_sep']
    isplitl [HtB]; · iexact HtB
    iapply (bigSep_some Finset.univ (fun (j : Fin 15) f => gPts c (dest c j) f) g); iexact Hg
  iintro %u HO
  -- the barrier
  iapply (runs_wand c)
  isplitl [HO HcB HaB]
  · iapply (barrier_runs X K c W)
    isplitr; · iexact HR
    isplitr; · iexact Hlev
    isplitl [HO]; · iexact HO
    isplitl [HcB] <;> iassumption
  iintro %u ⟨⟨%W', HO⟩, HzB, Hp⟩
  -- the first four weight blocks
  iapply (runs_wand c)
  isplitl [Hb Hws Hw]
  · iapply (early_run V c)
    isplitl [Hb Hws]
    · iapply (idle_of c); isplitl [Hb] <;> iassumption
    · iapply (Entails.of_eq (w_parts V c)); iexact Hw
  iintro %u ⟨Hfl, Hr⟩
  -- the cast
  iapply (runs_wand c)
  isplitl [Hx He]
  · iapply (castX_runs c (X c)); isplitl [Hx] <;> iassumption
  iintro %u ⟨Hx, He⟩
  ihave He := (Entails.of_eq (e_parts X c)) $$ He
  icases He with ⟨Hec, He⟩
  -- the copies
  iapply (runs_wand c)
  isplitl [HO He Hp HtS HtV]
  · iapply (sends_run X K c W')
    isplitr; · iexact HR
    isplitl [HO]; · iexact HO
    unfold toSend
    rw [bigSep_sep', bigSep_sep', bigSep_sep']
    isplitl [He Hp]; · isplitl [He] <;> iassumption
    isplitl [HtS] <;> iassumption
  iintro %u ⟨HO, HcS⟩
  -- the own block
  iapply (runs_wand c)
  isplitl [Hec Hgc]
  · iapply (ownBlock_runs X c)
    isplitl [Hec]; · iexact Hec
    iexists g; iexact Hgc
  iintro %u ⟨Hec, Hgc⟩
  -- the receive waits
  iapply (runs_wand c)
  isplitl [HO HcV HaV]
  · iapply (recvs_run X K c)
    isplitr; · iexact HR
    isplitl [HO]; · iexact HO
    rw [bigSep_sep']
    isplitl [HcV] <;> iassumption
  rw [bigSep_sep', ← bigSep_rev fun j : Fin 15 => gPts c (dest c j) (gath X c)]
  iintro %u ⟨HO, Hg, HzV⟩
  -- the scales
  iapply (runs_wand c)
  isplitl [Hsx]; · iapply (sx_runs c sx); iexact Hsx
  iintro %a ⟨%ha, Hsx⟩
  iapply (runs_wand c)
  isplitl [Hsw]; · iapply (sw_runs c sw); iexact Hsw
  iintro %b ⟨%hb, Hsw⟩
  subst ha hb
  -- the chunks
  iapply (runs_wand c)
  isplitl [HO Hg Hgc Hv Ho Hfl Hr]
  · iapply (chunks_run X V c (k0_pay4 (elt1 sx) (elt1 sw)) o)
    unfold before
    rw [outTo_zero, upto_zero]
    isplitl [HO]; · iexact HO
    isplitl [Hg Hgc]
    · iapply (Entails.of_eq (g_parts c (gath X c)).symm); isplitl [Hgc] <;> iassumption
    isplitl [Hv]; · iexact Hv
    isplitl [Ho]; · iexact Ho
    isplitl [Hfl]; · iexact Hfl
    isplitl [Hr]; · iexact Hr
    iempintro
  unfold before
  rw [outTo_last, upto_end, rest_end _ (by decide), Fl_past _ _ _ (by decide), Fl_past _ _ _ (by decide), Fl_past _ _ _ (by decide), Fl_past _ _ _ (by decide)]
  iintro %u ⟨HO, Hg, Hv, Ho, Hidle, -, Hw⟩
  -- the send waits
  iapply (runs_wand c)
  isplitl [HO HcS HaS]
  · iapply (drains_run X K c)
    isplitr; · iexact HR
    isplitl [HO]; · iexact HO
    rw [bigSep_sep']
    isplitl [HcS] <;> iassumption
  rw [bigSep_sep']
  iintro %u ⟨HO, He, HzS⟩
  ihave Hb := (of_idle c) $$ [Hidle]
  · iapply (Entails.of_eq (bigSep_four (idle (F := F) c)).symm); iexact Hidle
  icases Hb with ⟨Hb, Hws⟩
  isplitl [He Hec Hg Hb Hv]
  · isplitl [He Hec]
    · iexists _; iapply (Entails.of_eq (e_parts X c).symm); isplitl [Hec] <;> iassumption
    isplitl [Hg]; · iexists _; iexact Hg
    isplitl [Hb] <;> iassumption
  isplitl [HzB HzS HzV Hws]
  · unfold sems
    isplitl [HzB]; · iexact HzB
    isplitl [HzS]; · iexact HzS
    isplitl [HzV] <;> iassumption
  isplitl [Hw]; · iapply (Entails.of_eq (w_parts V c).symm); iexact Hw
  isplitl [HO]; · iexact HO
  isplitl [Hx]; · iexact Hx
  isplitl [Hsx]; · iexact Hsx
  isplitl [Hsw] <;> iassumption

end Cert.AllToAll

end
-- ==== Proof.Deal.lean ====
/-
  What the launch deals. Every cell of every device is opened at once, so that every device may pay every other's; the
  token of a duty goes to the device that pays it, which is a matter of naming each device and message once by where it
  goes and once by where it comes from; and the credit a device starts with is what the others owe it.
-/
module

public import proofs.«01_k».proof.Proof.Body
public import Idealize.ShloMosaic.Lib.Pipeline.Launch

@[expose] public section

noncomputable section

namespace Cert.AllToAll

open Cert.KernelIdeal Cert.KernelIdeal.Gen
open Idealize.ShloMosaic Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x256.Idx → Elt F .f32)

/-! ## The kernel's own semaphores -/

/-- The sends, the receives, and the slots' halves. -/
abbrev Own : Type := (Bool × Fin 15) ⊕ (Fin 4 × Fin 2)
set_option backward.proofsInPublic true in
abbrev osem : Own → SemLoc sig := Sum.elim (fun k => csem (some k)) (fun p => .dma (wS (early p.1) p.2))

theorem ownSemFacts : Pipeline.OwnSemFacts cfg0.spec osem := by decide +kernel

theorem bigSep_bool (Φ : Bool × Fin 15 → sProp 𝕄) : bigSep Finset.univ Φ
    = iprop((bigSep Finset.univ fun j : Fin 15 => Φ (false, j)) ∗ bigSep Finset.univ fun j : Fin 15 => Φ (true, j)) := by
  rw [bigSep_univ_prod]
  exact bigSep_univ_eq_bigSepL [false, true] (by decide) (by decide) fun b => bigSep Finset.univ fun j : Fin 15 => Φ (b, j)

theorem univ_cell : (Finset.univ : Finset Cell) = insert none (Finset.univ.map ⟨some, Option.some_injective _⟩) := by decide +kernel

theorem bigSep_cell (Φ : Cell → sProp 𝕄) : bigSep Finset.univ Φ
    = iprop(Φ none ∗ (bigSep Finset.univ fun j : Fin 15 => Φ (some (false, j))) ∗ bigSep Finset.univ fun j : Fin 15 => Φ (some (true, j))) := by
  rw [univ_cell, bigSep_insert (by simp), bigSep_map, ← bigSep_bool fun k => Φ (some k)]
  rfl

variable (c : Dev nD)

/-- The kernel's own semaphores at zero. -/
abbrev ownZero : sProp 𝕄 := Pipeline.ownSems0 (Ix := Unit) (Name := ℕ) (U := UU) (Lvl := ℕ) (Val := Elt F) (τ := τ) osem c

theorem ownSems0_eq : (ownZero (F := F) c)
    = iprop(((bigSep Finset.univ fun j : Fin 15 => semVal (sendCell c j) 0) ∗ bigSep Finset.univ fun j : Fin 15 => semVal (recvCell c j) 0) ∗ wSems c) := by
  unfold ownZero Pipeline.ownSems0
  rw [bigSep_univ_sum, bigSep_bool]
  unfold wSems
  congr 1
  rw [bigSep_univ_prod]
  exact bigSep_congr fun s _ => bigSep_two fun r => semVal ((c : Thread nD τ), .dma (wS (early s) r)) 0

theorem unscopedSems0_eq : (unscopedSems0 c : sProp 𝕄) = semVal (barCell c) 0 := by
  unfold unscopedSems0; rw [bigSep_eq_bigSepL_of_eq [SemLoc.reg barS] (by decide) (by decide)]; rfl

/-! ## The tokens -/

def cells : Finset (GSem nD τ sig) := Finset.univ.map ⟨kcell, kcell_injective⟩

/-- Three tokens for each device and number: the barrier's duty, the send's, the receive's. -/
def tcell : Fin 3 × Fin 15 → Cell
  | (0, j) => none
  | (1, j) => some (false, j)
  | (2, j) => some (true, j)
def tduty : Fin 3 × Fin 15 → Fin 15
  | (0, j) => j
  | _ => 0

theorem tok_inj : ∀ a b : Fin 3 × Fin 15, tcell a = tcell b → tduty a = tduty b → a = b := by decide +kernel

abbrev tokOf (p : Dev nD × (Fin 3 × Fin 15)) : GSem nD τ sig × ℕ × Fin 15 := (kcell (p.1, tcell p.2), 0, tduty p.2)

theorem tokOf_injective : Function.Injective (tokOf : Dev nD × (Fin 3 × Fin 15) → GSem nD τ sig × ℕ × Fin 15) := by
  rintro ⟨c, a⟩ ⟨c', b⟩ h
  have h1 := kcell_injective (congrArg Prod.fst h)
  have h2 : c = c' := congrArg Prod.fst h1
  have h3 : tcell a = tcell b := congrArg Prod.snd h1
  have h4 : tduty a = tduty b := congrArg (fun x => x.2.2) h
  rw [h2, tok_inj a b h3 h4]

def tokens : Finset (GSem nD τ sig × ℕ × Fin 15) := Finset.univ.map ⟨tokOf, tokOf_injective⟩

/-- The tokens of the duties of device `c`'s own cells. -/
def toks : sProp 𝕄 :=
  iprop((bigSep Finset.univ fun j : Fin 15 => dutyTok ER (barCell c) 0 j) ∗ (bigSep Finset.univ fun j : Fin 15 => dutyTok ER (sendCell c j) 0 0)
    ∗ bigSep Finset.univ fun j : Fin 15 => dutyTok ER (recvCell c j) 0 0)

theorem bigSep_three (Φ : Fin 3 → sProp 𝕄) : bigSep Finset.univ Φ = iprop(Φ 0 ∗ Φ 1 ∗ Φ 2) := bigSep_univ_eq_bigSepL [0, 1, 2] (by decide) (by decide) Φ

/-- What the launch element holds for device `c`. -/
def G : sProp 𝕄 :=
  iprop((bigSep Finset.univ fun k : Cell => roundState ER (sched X) (kcell (c, k)) 0)
    ∗ ((bigSep Finset.univ fun k : Cell => atPos ER (kcell (c, k)) 0 ∅ 0) ∗ bigSep Finset.univ fun k : Cell => reached ER (kcell (c, k)) 0) ∗ toks c)

/-- What every device is dealt. -/
def G' : sProp 𝕄 := iprop((∃ K, records X K) ∗ places c ∗ pays c ∗ wSems c)

theorem fund : BI.own (ER (initOf cells tokens)) ⊢ (|==> bigSep Finset.univ (G X) : sProp 𝕄) := by
  have hX (Φ : GSem nD τ sig → sProp 𝕄) : bigSep cells Φ = bigSep Finset.univ fun c : Dev nD => bigSep Finset.univ fun k : Cell => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_prod, bigSep_three]; rfl
  iintro HX
  imod (Rounds.fund ER (sched X) cells tokens) $$ HX with ⟨Hst, Hr, Hat, Htok⟩
  imodintro
  ihave Hst := (Entails.of_eq (hX fun g => roundState ER (sched X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- A token goes to the device that pays with it. -/
theorem toks_around : (bigSep Finset.univ fun c : Dev nD => (toks c : sProp 𝕄)) = bigSep Finset.univ fun c : Dev nD => pays c := by
  unfold toks pays
  simp only [bigSep_sep']
  congr 1
  · rw [← bigSep_univ_prod fun p : Dev nD × Fin 15 => (dutyTok ER (barCell p.1) 0 p.2 : sProp 𝕄), bigSep_univ_equiv flip, bigSep_univ_prod]
    rfl
  congr 1
  rw [← bigSep_univ_prod fun p : Dev nD × Fin 15 => (dutyTok ER (recvCell p.1 p.2) 0 0 : sProp 𝕄), bigSep_univ_equiv along, bigSep_univ_prod]
  rfl

/-! ## The cells opened -/

theorem open_cells : iprop(ownZero c ∗ unscopedSems0 c ∗ G X c)
    ⊢ (|={Set.univ}=> iprop((bigSep Finset.univ fun k : Cell => iprop(∃ κ : ℕ, cellInv ER (sched X) κ (kcell (c, k))))
        ∗ (bigSep Finset.univ fun k : Cell => reached ER (kcell (c, k)) 0) ∗ places c ∗ toks c ∗ wSems c) : sProp 𝕄) := by
  unfold G
  rw [ownSems0_eq, unscopedSems0_eq]
  iintro ⟨⟨⟨HzS, HzV⟩, Hws⟩, HzB, Hst, ⟨Hat, Hr⟩, Htok⟩
  imod (show iprop((bigSep Finset.univ fun k : Cell => semVal (kcell (c, k)) 0) ∗ bigSep Finset.univ fun k : Cell => roundState ER (sched X) (kcell (c, k)) 0)
      ⊢ (|={Set.univ}=> bigSep Finset.univ fun k => iprop(∃ κ : ℕ, cellInv ER (sched X) κ (kcell (c, k))) : sProp 𝕄) from by
        rw [← bigSep_sep']
        exact (bigSep_mono fun k _ => (Rounds.body_intro ER (sched X) (kcell (c, k))).trans inv_alloc).trans (bigSep_fupd _ _)) $$ [HzS HzV HzB Hst] with Hinv
  · isplitr [Hst]
    · iapply (Entails.of_eq (bigSep_cell fun k => semVal (kcell (c, k)) 0).symm)
      isplitl [HzB]; · iexact HzB
      isplitl [HzS] <;> iassumption
    · iexact Hst
  imodintro
  isplitl [Hinv]; · iexact Hinv
  isplitl [Hr]; · iexact Hr
  isplitl [Hat]
  · unfold places; iapply (Entails.of_eq (bigSep_cell fun k => atPos ER (kcell (c, k)) 0 ∅ 0)); iexact Hat
  isplitl [Htok] <;> iassumption

theorem with_all {R : sProp 𝕄} [BI.Persistent R] (Φ Ψ : Dev nD → sProp 𝕄) (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem deal_one (K : Dev nD × Cell → ℕ) (c : Dev nD) : iprop(records X K ∗ places c ∗ pays c ∗ wSems c) ⊢ (G' X c : sProp 𝕄) := by
  unfold G'
  iintro ⟨HR, H⟩
  isplitl [HR]; · iexists K; iexact HR
  iexact H

theorem deal_all : (bigSep Finset.univ fun c : Dev nD => iprop((bigSep Finset.univ fun k : Cell => iprop(∃ κ : ℕ, cellInv ER (sched X) κ (kcell (c, k))))
      ∗ (bigSep Finset.univ fun k : Cell => reached ER (kcell (c, k)) 0) ∗ places c ∗ toks c ∗ wSems c) : sProp 𝕄) ⊢ bigSep Finset.univ (G' X) := by
  rw [bigSep_sep', bigSep_sep', bigSep_sep', bigSep_sep', toks_around,
    ← bigSep_univ_prod (fun p : Dev nD × Cell => iprop(∃ κ : ℕ, cellInv ER (sched X) κ (kcell p))),
    ← bigSep_univ_prod (fun p : Dev nD × Cell => (reached ER (kcell p) 0 : sProp 𝕄))]
  iintro ⟨HI, #HR, Hp, Ht, Hw⟩
  ihave HK := (BI.bigSep_exists_pi Finset.univ (fun (p : Dev nD × Cell) (κ : ℕ) => (cellInv ER (sched X) κ (kcell p) : sProp 𝕄))) $$ HI
  icases HK with ⟨%K, #HI⟩
  iapply (with_all (R := records X K) (fun c => iprop(places c ∗ pays c ∗ wSems c)) (G' X) (deal_one X K))
  isplitr
  · unfold records; isplitl; · iexact HI
    iexact HR
  · rw [bigSep_sep', bigSep_sep']
    isplitl [Hp]; · iexact Hp
    isplitl [Ht] <;> iassumption

theorem glob : (bigSep Finset.univ fun c => iprop(ownZero c ∗ unscopedSems0 c ∗ G X c) : sProp 𝕄) ⊢ |={Set.univ}=> bigSep Finset.univ (G' X) :=
  ((bigSep_mono fun c _ => open_cells X c).trans (bigSep_fupd _ _)).trans (BI.fupd_mono (deal_all X))

/-! ## The credit at launch -/

theorem cell_eq {p q : Dev nD × Cell} : Iff (kcell p = kcell q) (p = q) := ⟨fun h => kcell_injective h, fun h => h ▸ rfl⟩

theorem owed_bar (d c : Dev nD) : O₀ d (barCell c) () = ∑ j : Fin 15, if dest d j = c then 1 else 0 := by
  unfold O₀ Ob
  rw [owing_apply]
  unfold Or
  rw [owing_apply, Finset.sum_eq_zero fun j _ => by
    rw [tallyAt_apply, if_neg]
    exact fun h => by have := cell_eq (p := (c, none)) (q := (dest d j, some (true, j))) |>.mp h.1; exact absurd (congrArg Prod.snd this) (by simp)]
  rw [show (0 : CellTallies nD τ sig Unit) (barCell c) () = 0 from rfl, Nat.zero_add, Nat.zero_add]
  refine Finset.sum_congr rfl fun j _ => ?_
  rw [tallyAt_apply]
  by_cases h : dest d j = c
  · subst h; rw [if_pos ⟨rfl, rfl⟩, if_pos rfl]
  · rw [if_neg h, if_neg]
    exact fun h' => h (congrArg Prod.fst (cell_eq (p := (c, none)) (q := (dest d j, none)) |>.mp h'.1)).symm

theorem owed_recv (d c : Dev nD) (i : Fin 15) : O₀ d (recvCell c i) () = ∑ j : Fin 15, if (dest d j, j) = (c, i) then N else 0 := by
  unfold O₀ Ob
  rw [owing_apply]
  unfold Or
  rw [owing_apply, Finset.sum_eq_zero (f := fun j => (tallyAt (barCell (dest d j)) () 1 : CellTallies nD τ sig Unit) (recvCell c i) ()) fun j _ => by
    rw [tallyAt_apply, if_neg]
    exact fun h => by have := cell_eq (p := (c, some (true, i))) (q := (dest d j, none)) |>.mp h.1; exact absurd (congrArg Prod.snd this) (by simp)]
  rw [show (0 : CellTallies nD τ sig Unit) (recvCell c i) () = 0 from rfl, Nat.zero_add, Nat.add_zero]
  refine Finset.sum_congr rfl fun j _ => ?_
  rw [tallyAt_apply]
  by_cases h : (dest d j, j) = (c, i)
  · obtain ⟨rfl, rfl⟩ := Prod.mk.inj h; rw [if_pos ⟨rfl, rfl⟩, if_pos rfl]
  · rw [if_neg h, if_neg]
    intro h'
    have e := cell_eq (p := (c, some (true, i))) (q := (dest d j, some (true, j))) |>.mp h'.1
    obtain ⟨e1, e2⟩ := Prod.mk.inj e
    exact h (Prod.ext e1.symm (congrArg Prod.snd (Option.some.inj e2)).symm)

theorem launch_bar : tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c,
    ← Fintype.sum_prod_type' fun (d : Dev nD) (j : Fin 15) => if dest d j = c then 1 else 0,
    show (∑ p : Dev nD × Fin 15, if dest p.1 p.2 = c then 1 else 0) = ∑ p : Dev nD × Fin 15, if p.1 = c then 1 else 0 from
      Equiv.sum_comp flip fun p : Dev nD × Fin 15 => if p.1 = c then 1 else 0,
    Fintype.sum_prod_type, Finset.sum_congr rfl fun d _ => show (∑ _j : Fin 15, if d = c then 1 else 0) = if d = c then 15 else 0 from by
      rw [Finset.sum_const, Finset.card_univ, Fintype.card_fin, smul_eq_mul]; split <;> rfl,
    Finset.sum_ite_eq' Finset.univ c fun _ => 15, if_pos (Finset.mem_univ _)]

theorem launch_recv (i : Fin 15) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i,
    ← Fintype.sum_prod_type' fun (d : Dev nD) (j : Fin 15) => if (dest d j, j) = (c, i) then N else 0,
    show (∑ p : Dev nD × Fin 15, if (dest p.1 p.2, p.2) = (c, i) then N else 0) = ∑ p : Dev nD × Fin 15, if p = (c, i) then N else 0 from
      Equiv.sum_comp along fun p : Dev nD × Fin 15 => if p = (c, i) then N else 0,
    Finset.sum_ite_eq' Finset.univ (c, i) fun _ => N, if_pos (Finset.mem_univ _)]

def recvLoc : Fin 15 ↪ SemLoc sig := ⟨fun i => csem (some (true, i)), fun i j h => by
  have := congrArg kind h
  rw [kind_csem, kind_csem] at this
  exact congrArg Prod.snd (Option.some.inj (Option.some.inj this))⟩

theorem recv_ne_bar (i : Fin 15) : csem (some (true, i)) ≠ csem none := fun h => by
  have := congrArg kind h
  rw [kind_csem, kind_csem] at this
  exact absurd (Option.some.inj this) (by simp)

theorem creds : (Pipeline.launchCred O₀ c : sProp 𝕄) ⊢ credits c := by
  unfold Pipeline.launchCred credits
  rw [bigSep_univ_at _ (SemLoc.reg barS), launch_bar]
  refine sep_mono_right ?_
  refine (BI.bigSep_subset (t := Finset.univ.map recvLoc) fun x hx => ?_).trans ?_
  · obtain ⟨i, -, rfl⟩ := Finset.mem_map.mp hx
    exact Finset.mem_erase.mpr ⟨recv_ne_bar i, Finset.mem_univ _⟩
  · rw [bigSep_map]
    exact bigSep_mono fun i _ => by rw [← launch_recv]; exact BI.Entails.refl _

end Cert.AllToAll

end
-- ==== Proof.Run.lean ====
/-
  The run of `@main` on the sixteen devices, from any memory with zero counters: every execution ends, with each
  device's result at `outAt` of the arguments, the arguments as they were and every counter at zero.
-/
module

public import proofs.«01_k».proof.Proof.Deal
public import Idealize.ShloMosaic.Lib.Pipeline.CollectiveSegs
public import Idealize.ShloMosaic.Lib.Quiescent

@[expose] public section

noncomputable section

namespace Cert.AllToAll

open Cert.KernelIdeal Cert.KernelIdeal.Gen
open Idealize.ShloMosaic Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The arguments and the result -/

def xArg (c : Dev nD) : S4096x256.Idx → Elt F .f32 := m ((c : Thread nD τ).loc main_arg0)
def wArg (c : Dev nD) : S4096x8192.Idx → Elt F .f32 := m ((c : Thread nD τ).loc main_arg1)
def sxArg (c : Dev nD) : S1.Idx → Elt F .f32 := m ((c : Thread nD τ).loc main_arg2)
def swArg (c : Dev nD) : S1.Idx → Elt F .f32 := m ((c : Thread nD τ).loc main_arg3)
/-- The result on device `c`. -/
def outArg (c : Dev nD) : S256x8192.Idx → Elt F .f32 := outAt (xArg m) (wArg m c) (k0_pay4 (elt1 (sxArg m c)) (elt1 (swArg m c))) c

theorem blk0 (f : S4096x256.Idx → Elt F .f32) : (win0_0.blk t0_0).view.read (Elt F) f = f :=
  Memref.read_access_unit_zero (Elt F) main_arg0 (funext fun a => Nat.zero_mul _) _ f
theorem blk1 (f : S1.Idx → Elt F .f32) : (win0_1.blk t0_0).view.read (Elt F) f = f :=
  Memref.read_access_unit_zero (Elt F) main_arg2 (funext fun a => Nat.zero_mul _) _ f
theorem blk2 (f : S1.Idx → Elt F .f32) : (win0_2.blk t0_0).view.read (Elt F) f = f :=
  Memref.read_access_unit_zero (Elt F) main_arg3 (funext fun a => Nat.zero_mul _) _ f
theorem blk3 (f w : S256x8192.Idx → Elt F .f32) : (win0_3.blk t0_0).view.write (Elt F) f w Finset.univ = w :=
  Memref.write_access_unit_zero_univ (Elt F) main_v1 (funext fun a => Nat.zero_mul _) _ f w

/-! ## Before and after -/

def start : sProp 𝕄 :=
  iprop(G' (xArg m) c ∗ credits c ∗ levAts L lv ∗ ((c : Thread nD τ).loc main_arg1) ↦{fullShare} wArg m c)
def Φ₀ : sProp 𝕄 := iprop(start m c ∗ scratch c)
def Φ₁ : sProp 𝕄 := iprop(scratch c ∗ sems c ∗ ((c : Thread nD τ).loc main_arg1) ↦{fullShare} wArg m c)

def dats (_ : Fin 1) (c : Dev nD) : Dat τ (Elt F) Unit ℕ UU ℕ cfg0 c where
  A w := m ((cfg0.win w).arr.view.loc (c : Thread nD τ))
  after w _ := match w with
    | ⟨0, _⟩ => xArg m c
    | ⟨1, _⟩ => sxArg m c
    | ⟨2, _⟩ => swArg m c
    | ⟨3, _⟩ => outArg m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before0 (d) : (dats m 0 c).before (0 : Fin 4) t0_0 d = xArg m c := by
  unfold Dat.before; rw [if_pos (fetch0_0 t0_0)]; exact blk0 (xArg m c)
theorem before1 (d) : (dats m 0 c).before (1 : Fin 4) t0_0 d = sxArg m c := by
  unfold Dat.before; rw [if_pos (fetch0_1 t0_0)]; exact blk1 (sxArg m c)
theorem before2 (d) : (dats m 0 c).before (2 : Fin 4) t0_0 d = swArg m c := by
  unfold Dat.before; rw [if_pos (fetch0_2 t0_0)]; exact blk2 (swArg m c)

theorem owns_eq (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

abbrev stg (b : Ref sig .tc) (Y : b.ty.Contents (Elt F)) : sProp 𝕄 :=
  iprop(∃ f : Buf (Elt F) ((c : Thread nD τ).loc b), ⌜f = Y⌝ ∗ (((c : Thread nD τ).loc b) ↦{fullShare} f))

def bodyPre : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost : sProp 𝕄 :=
  iprop(Φ₁ m c ∗ (dats m 0 c).owesAt () t0_0.succ
    ∗ stg c cc0_stg0_0 (xArg m c) ∗ stg c cc0_stg1_0 (sxArg m c) ∗ stg c cc0_stg2_0 (swArg m c) ∗ stg c cc0_stg3_0 (outArg m c))

theorem named_runs (Q : PUnit → sProp 𝕄) : runs (F := F) c (bodyAt c) Q ⊢ runs (F := F) c ((Prog.lift .deviceId).bind bodyAt) Q := by
  rw [show ((Prog.lift .deviceId).bind bodyAt : Prog (TpuEff nD τ sig (Elt F) Λ₀ .tc) PUnit) = .op .deviceId fun d => bodyAt d from rfl]
  unfold runs
  rw [wp_deviceId]

theorem body_runs : bodyPre m c ⊢ runs (F := F) c (bodyAt0 t0_0) fun _ => bodyPost m c := by
  rw [body_eq]
  refine BIBase.Entails.trans ?_ (named_runs c _)
  unfold bodyPre Φ₀ start G' Dat.owesAt Pipeline.owesWithin
  iintro ⟨⟨⟨⟨⟨%K, HR⟩, Hpl, Hpay, Hws⟩, Hcr, Hlev, Hw⟩, Hscr⟩, ⟨%W, %hW, HO⟩, ⟨%d0, %g0, %h0, Hx⟩, ⟨%d1, %g1, %h1, Hsx⟩, ⟨%d2, %g2, %h2, Hsw⟩, ⟨%d3, %g3, %h3, Ho⟩⟩
  rw [before0] at h0
  rw [before1] at h1
  rw [before2] at h2
  subst h0 h1 h2
  rw [show (dats m 0 c).owed t0_0.castSucc = O₀ c from rfl]
  iapply (runs_wand c)
  isplitl [HR Hlev Hpl Hpay Hcr Hscr Hws Hw HO Hx Hsx Hsw Ho]
  · iapply (bodyAt_runs (xArg m) (wArg m c) K c W (sxArg m c) (swArg m c) g3)
    isplitl [HR]; · iexact HR
    isplitl [Hlev]; · iexact Hlev
    isplitl [Hpl]; · iexact Hpl
    isplitl [Hpay]; · iexact Hpay
    isplitl [Hcr]; · iexact Hcr
    isplitl [Hscr]; · iexact Hscr
    isplitl [Hws]; · iexact Hws
    isplitl [Hw]; · iexact Hw
    isplitl [HO]; · iexact HO
    isplitl [Hx]; · iexact Hx
    isplitl [Hsx]; · iexact Hsx
    isplitl [Hsw] <;> iassumption
  unfold bodyPost Φ₁ Dat.owesAt Pipeline.owesWithin free
  rw [show (dats m 0 c).owed t0_0.succ = 0 from rfl]
  iintro %u ⟨Hscr, Hsem, Hw, ⟨%W', HO⟩, Hx, Hsx, Hsw, Ho⟩
  isplitl [Hscr Hsem Hw]
  · isplitl [Hscr]; · iexact Hscr
    isplitl [Hsem] <;> iassumption
  isplitl [HO]
  · iexists W'
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Ho

theorem runs_of {p : Prog (TpuEff nD τ sig (Elt F) Λ₀ .tc) PUnit} (h : p = bodyAt0 t0_0) : bodyPre m c ⊢ runs (F := F) c p fun _ => bodyPost m c := by
  subst h
  exact body_runs m c

theorem defs_eq : defs₀ (F := F) Proc.tc 0 (t0_0, cfg0.slots t0_0) = bodyAt0 t0_0 := by
  unfold defs₀ Defs.onTc
  rfl

set_option maxRecDepth 4000 in
theorem body_obligation : BodyObligation (dats (F := F) m 0 c) (defs₀ (F := F)) 𝒱₀ () Set.univ := fun t => by
  rw [show t = t0_0 from fin_N0 t]
  rw [show (Finset.univ : Finset (Fin cfg0.W)) = (Finset.univ : Finset (Fin 4)) from rfl, bigSep_W0, bigSep_W0]
  simp only [owns_eq]
  rw [show (dats m 0 c).Φ t0_0.castSucc = Φ₀ m c from rfl, show (dats m 0 c).Φ t0_0.succ = Φ₁ m c from rfl]
  show bodyPre m c ⊢ _
  have h := defs_eq (F := F)
  generalize defs₀ (F := F) Proc.tc 0 (t0_0, cfg0.slots t0_0) = p at h ⊢
  exact runs_of m c h

/-! ## The launch's conditions -/

theorem start_intro : iprop(Pipeline.unscopedRestP Pipeline.Prefetch.none cfg0.spec c (fun b => m ((c : Thread nD τ).loc b)) ∗ levAts L lv
      ∗ Pipeline.launchCred O₀ c ∗ prngReg c (ρ c) ∗ G' (xArg m) c)
    ⊢ (|={Set.univ}=> iprop(start m c ∗ emp) : sProp 𝕄) := by
  rw [Pipeline.unscopedRestP_none, unscopedRest0_eq]
  iintro ⟨Hw, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Hw
  · iempintro

theorem enter : iprop(start m c ∗ Pipeline.prefHeld Pipeline.Prefetch.none c (fun _ => fullShare.right) (fun k => k.elim0) ∗ Pipeline.scopedRest cfg0.spec c)
    ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What a device has after the call beside its arrays: its barrier's counter at zero and the weights. -/
def left : sProp 𝕄 := iprop(unscopedSems0 c ∗ ((c : Thread nD τ).loc main_arg1) ↦{fullShare} wArg m c)

theorem leave : (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold left
  rw [show (Pipeline.ownSems0 osem c : sProp 𝕄) = ownZero c from rfl, ownSems0_eq, unscopedSems0_eq]
  unfold Φ₁ sems scratch
  iintro ⟨Hr, ⟨HzB, HzS, HzV, Hws⟩, Hw⟩
  isplitl [HzB Hw]
  · isplitl [HzB] <;> iassumption
  isplitr [Hr]
  · isplitr [Hws]
    · isplitl [HzS] <;> iassumption
    · iexact Hws
  iexact Hr

theorem waits : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem share_eq (w : Fin cfg0.W) : (dats m 0 c).share w = fullShare := by unfold Dat.share; split <;> rfl

def u₀ : UU := (initOf (Pipeline.cells cfgs cellOf_inj) (Pipeline.launchToks cfgs cellOf_inj), (initOf cells tokens, 1))

theorem u_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The run -/

def Post (r : PUnit × MemSt nD τ sig (Elt F)) : Prop :=
  (∀ c : Dev nD, r.2.mem ((c : Thread nD τ).loc main_v1) = outArg m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

theorem out_final : (dats m 0 c).arrAt (3 : Fin 4) cfg0.N = outArg m c := by
  rw [show cfg0.N = 0 + 1 from N_0]
  unfold Dat.arrAt
  rw [dif_pos (by rw [show cfg0.N = 1 from N_0]; exact Nat.one_pos), if_pos (flush0_3 _)]
  exact blk3 _ _

theorem left_read (s' : Phys nD τ sig (Elt F)) : iprop(left m c ∗ SI s')
    ⊢ (|={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  unfold left
  iintro ⟨⟨Hu, Hw⟩, HSI⟩
  icombine HSI Hw gives %h0
  imod (Pipeline.unscopedSems0_read (X := unscopedSems0 c) (c := c) fupd_intro s') $$ [Hu HSI] with ⟨%h, HSI⟩
  · isplitl [Hu] <;> iassumption
  imodintro
  isplitr; · ipureintro; exact ⟨h, Buf.eq_of_forall_mem_univ h0⟩
  iexact HSI

set_option maxRecDepth 100000 in
theorem run_main : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xArg m)) (G' := G' (xArg m)) (u₀ := u₀)
    (hu₀ := by
      unfold u₀
      iintro Hu
      ihave H := (u_split _ _) $$ Hu
      icases H with ⟨HP, HX⟩
      imod (fund (xArg m)) $$ HX with HG
      imodintro
      isplitl [HP] <;> iassumption)
    (hglob := glob (xArg m))
    (hA := fun _ _ => rfl) (hpf := fun _ k => k.elim0)
    (X := start m) (Y := left m) (Z := fun _ => iprop(emp))
    (hX := start_intro m ρ) (hin := enter m) (hout := leave m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hl, -, HSI⟩
      iapply (left_read m c s')
      isplitl [Hl] <;> iassumption)
    (hQ := fun s h hs => ⟨fun c => ⟨((h c).1 (3 : Fin 4)).trans (out_final m c),
        ((h c).1 (0 : Fin 4)).trans ((dats (F := F) m 0 c).arrAt_in (0 : Fin 4) rfl _), (h c).2.2.2,
        ((h c).1 (1 : Fin 4)).trans ((dats (F := F) m 0 c).arrAt_in (1 : Fin 4) rfl _),
        ((h c).1 (2 : Fin 4)).trans ((dats (F := F) m 0 c).arrAt_in (2 : Fin 4) rfl _)⟩,
      sem_eq_zero hs fun c => (h c).2.2.1⟩)

end Cert.AllToAll

end
-- ==== Proof.Value.lean ====
/-
  The kernel's result over the reals: device `c`'s row `i`, column `j` is row `256 c + i` of the whole `x` against column
  `j` of the weights, times the product of the two scales.
-/
module

public import proofs.«01_k».proof.Proof.Run
public import Idealize.ShloMosaic.Lib.MatmulPlain
public import Idealize.ShloMosaic.Lib.Layout
public import Idealize.ShloMosaic.Lib.ValueIdx
public import Idealize.ShloMosaic.Lib.ValueLayout

@[expose] public section

noncomputable section

namespace Cert.AllToAll

open Cert.KernelIdeal Cert.KernelIdeal.Gen
open Idealize.ShloMosaic Idealize.ShloMosaic.TcCoe Idealize.ShloMosaic.ValueIdx
open scoped BigOperators

/-! ## One chunk -/

/-- A chunk's product, scaled, at row `i`, column `j`: over the reals the casts change nothing. -/
theorem chunk_apply (s : Ideal .f32) (g : S256x4096.Idx → Elt Ideal .fp8e4m3) (v : S4096x256.Idx → Elt Ideal .fp8e5m2) (i j : Fin 256) :
    k0_pay6 (F := Ideal) s g v (ix2 i j) = (∑ k : Fin 4096, (g (ix2 i k) : Ideal .f32) * (v (ix2 k j) : Ideal .f32) : Ideal .f32) * s := by
  unfold k0_pay6
  rw [mulf_apply]
  refine congrArg (fun a : Ideal .f32 => a * s) ?_
  refine (Ideal.matmul_plain_apply none g v _ i j).trans ?_
  rw [constant_apply, Ideal.ofBits_zero_f32, zero_add]

/-- The cast of the device's columns, and the rows gathered of every device's. -/
theorem cast8_apply (X : S4096x256.Idx → Elt Ideal .f32) (p : S4096x256.Idx) : cast8 (F := Ideal) X p = X p := by
  unfold cast8 k0_pay2 k0_pay1
  rw [shapeCast_self, truncf_apply, shapeCast_self]

/-- Chunk `k`'s weights, cast. -/
theorem wCast_apply (V : S4096x8192.Idx → Elt Ideal .f32) (k : Fin 32) (a : Fin 4096) (b : Fin 256) :
    wCast (F := Ideal) V k (ix2 a b) = V (ix2 a ⟨256 * k.val + b.val, by omega⟩) := by
  unfold wCast k0_pay5
  rw [shapeCast_self, truncf_apply, shapeCast_1ab_ab_apply]
  unfold wLoad wSlot
  show V _ = V _
  refine congrArg V (funext fun x => Fin.ext ?_)
  fin_cases x
  · show 0 + 1 * a.val = a.val
    omega
  · show 256 * k.val + (0 + 1 * b.val) = 256 * k.val + b.val
    omega

/-! ## The whole result -/

/-- The gathered rows, of columns that are the whole `x` cut among the devices. -/
theorem gath_apply (X : Dev nD → S4096x256.Idx → Elt Ideal .f32) (x : (⟨2, ![4096, 4096]⟩ : Shape).Idx → Elt Ideal .f32)
    (hX : ∀ d, X d = Layout.block ⟨2, ![4096, 256]⟩ ⟨2, ![4096, 4096]⟩ 1 16 d x) (c : Dev nD) (i : Fin 256) (k : Fin 4096) :
    gath (F := Ideal) X c (ix2 i k) = x (ix2 ⟨c.val * 256 + i.val, by have : c.val < 16 := c.isLt; omega⟩ k) := by
  unfold gath
  rw [cast8_apply, hX, Layout.block_apply]
  refine congrArg x (funext fun a => Fin.ext ?_)
  fin_cases a
  · show 256 * c.val + i.val = c.val * 256 + i.val
    omega
  · show k.val / 256 * 256 + k.val % 256 = k.val
    omega

/-- Device `c`'s result at row `i`, column `j`. -/
theorem outAt_apply (X : Dev nD → S4096x256.Idx → Elt Ideal .f32) (x : (⟨2, ![4096, 4096]⟩ : Shape).Idx → Elt Ideal .f32)
    (hX : ∀ d, X d = Layout.block ⟨2, ![4096, 256]⟩ ⟨2, ![4096, 4096]⟩ 1 16 d x) (V : S4096x8192.Idx → Elt Ideal .f32) (s : Ideal .f32)
    (c : Dev nD) (i : Fin 256) (j : Fin 8192) :
    outAt (F := Ideal) X V s c (ix2 i j)
      = (∑ k : Fin 4096, (x (ix2 ⟨c.val * 256 + i.val, by have : c.val < 16 := c.isLt; omega⟩ k) : Ideal .f32) * (V (ix2 k j) : Ideal .f32) : Ideal .f32) * s := by
  unfold outAt
  refine (chunk_apply s _ _ _ _).trans ?_
  refine congrArg (fun a : Ideal .f32 => a * s) (Finset.sum_congr rfl fun k _ => ?_)
  refine congrArg₂ (fun a b : Ideal .f32 => a * b) (gath_apply X x hX c i k) ((wCast_apply V _ k _).trans ?_)
  refine congrArg V (funext fun a => Fin.ext ?_)
  fin_cases a
  · rfl
  · show 256 * (j.val / 256) + j.val % 256 = j.val
    omega

end Cert.AllToAll

end
-- ==== Proof.Reference.lean ====
/-
  The reference: the run of its five operations, and its result at an index — a row of `x` against a column of the
  weights, times the product of the two scales.
-/
module

public import proofs.«01_k».proof.Proof.Gen.ReferenceIdeal
public import Idealize.ShloMosaic.Lib.StableHlo.Run
public import Idealize.ShloMosaic.Lib.Quiescent
public import Idealize.ShloMosaic.Lib.StackMember
public import Idealize.ShloMosaic.Lib.ValueIdx
public import Idealize.ShloMosaic.Lib.Pipeline.Value

@[expose] public section

noncomputable section

namespace Cert.AllToAllRef

open Cert.ReferenceIdeal Cert.ReferenceIdeal.Gen
open Idealize.ShloMosaic Idealize.ShloMosaic.TcCoe Idealize.ShloMosaic.ValueIdx
open Idealize.ShloMosaic.StableHlo
open Idealize.SL.Sem
open scoped BigOperators

/-! ## What it computes -/

/-- The product scaled, element by element. -/
def scaled (x : S4096x4096.Idx → Elt Ideal .f32) (w : S4096x8192.Idx → Elt Ideal .f32) (sx sw : S1.Idx → Elt Ideal .f32) :
    S4096x8192.Idx → Elt Ideal .f32 :=
  mulf (F := Ideal) (φ := .f32) (Host.dotGeneral (F := Ideal) (φ₁ := .f32) (φ₂ := .f32) dot_S4096x4096_S4096x8192_S4096x8192_1_0_0_1_n_n none x w)
    (broadcastInDim S4096x8192 ![0, 1] bcast_S1x1_S4096x8192_0_1 (broadcastInDim S1x1 ![1] bcast_S1_S1x1_1 (mulf (F := Ideal) (φ := .f32) sx sw)))

/-- It at row `i`, column `j`. -/
theorem scaled_apply (x : S4096x4096.Idx → Elt Ideal .f32) (w : S4096x8192.Idx → Elt Ideal .f32) (sx sw : S1.Idx → Elt Ideal .f32)
    (i : Fin 4096) (j : Fin 8192) :
    scaled x w sx sw (ix2 i j) = (∑ k : Fin 4096, x (ix2 i k) * w (ix2 k j) : Ideal .f32) * (sx (ix1 0) * sw (ix1 0) : Ideal .f32) := by
  unfold scaled
  rw [mulf_apply]
  refine congrArg₂ (fun a b : Ideal .f32 => a * b) (StackMember.dotGeneral_plain_apply none x w i j) ?_
  refine (broadcastInDim_apply _ _ _ _ (ix2 (0 : Fin 1) (0 : Fin 1)) fun a => by fin_cases a <;> rfl).trans ?_
  refine (broadcastInDim_apply _ _ _ _ (ix1 (0 : Fin 1)) fun a => by fin_cases a; rfl).trans ?_
  rfl

/-! ## Its run -/

/-- The operations of `@main`, in order. -/
abbrev ops : List (HloOp τ sig (Elt Ideal)) :=
  [binary main_arg0 main_arg1 main_v0 ((fun l r => Host.dotGeneral (F := Ideal) (φ₁ := .f32) (φ₂ := .f32) dot_S4096x4096_S4096x8192_S4096x8192_1_0_0_1_n_n none l r) : (⟨S4096x4096, .f32⟩ : BufTy).Contents (Elt Ideal) → (⟨S4096x8192, .f32⟩ : BufTy).Contents (Elt Ideal) → (⟨S4096x8192, .f32⟩ : BufTy).Contents (Elt Ideal)),
   binary main_arg2 main_arg3 main_v1 (mulf (F := Ideal) (φ := .f32) : (⟨S1, .f32⟩ : BufTy).Contents (Elt Ideal) → (⟨S1, .f32⟩ : BufTy).Contents (Elt Ideal) → (⟨S1, .f32⟩ : BufTy).Contents (Elt Ideal)),
   unary main_v1 main_v2 (broadcastInDim S1x1 ![1] bcast_S1_S1x1_1 : (⟨S1, .f32⟩ : BufTy).Contents (Elt Ideal) → (⟨S1x1, .f32⟩ : BufTy).Contents (Elt Ideal)),
   unary main_v2 main_v3 (broadcastInDim S4096x8192 ![0, 1] bcast_S1x1_S4096x8192_0_1 : (⟨S1x1, .f32⟩ : BufTy).Contents (Elt Ideal) → (⟨S4096x8192, .f32⟩ : BufTy).Contents (Elt Ideal)),
   binary main_v0 main_v3 main_v4 (mulf (F := Ideal) (φ := .f32) : (⟨S4096x8192, .f32⟩ : BufTy).Contents (Elt Ideal) → (⟨S4096x8192, .f32⟩ : BufTy).Contents (Elt Ideal) → (⟨S4096x8192, .f32⟩ : BufTy).Contents (Elt Ideal))]

theorem ops_sub : ops.Forall fun op => op.bufs ⊆ tcRefs τ sig := by
  simp [ops]

variable (m : (ℓ : Loc nD τ sig) → Buf (Elt Ideal) ℓ) (ρ : Dev nD → PrngReg)

/-- The result of the arguments' contents. -/
abbrev result (c : Dev nD) : S4096x8192.Idx → Elt Ideal .f32 :=
  scaled (m ((c : Thread nD τ).loc main_arg0)) (m ((c : Thread nD τ).loc main_arg1)) (m ((c : Thread nD τ).loc main_arg2)) (m ((c : Thread nD τ).loc main_arg3))

/-- Every execution ends with the result at `scaled` of the arguments, the arguments as they were and every counter at
    zero. -/
theorem run_ref : θ_run (defs (F := Ideal)) (onTc (τ := τ) (main (F := Ideal))) ⟨m, fun _ => 0, ρ⟩ fun r =>
    (∀ c : Dev nD, r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 := by
  refine (θ_run _ _ _).mono (fun r h => ⟨fun c => ?_, sem_eq_zero_of_no_sems rfl _⟩)
    (run_seq (by decide) (by decide) defs main (fun _ => ops) (fun _ => rfl) (fun _ => ops_sub) m ρ)
  refine ⟨(h c main_v4).trans ?_, (h c main_arg0).trans ?_, (h c main_arg1).trans ?_, (h c main_arg2).trans ?_, (h c main_arg3).trans ?_⟩
  all_goals unfold ops; after_results <;> rfl

end Cert.AllToAllRef

end
-- ==== Proof.lean ====
/-
  The claims: every execution of the kernel, of its reading over the reals and of the reference ends with the arguments
  as they were and every counter at zero; no operation was rewritten between the two readings of the kernel; and over
  the reals the sixteen devices' results are the reference's, cut by rows.
-/
module

public import proofs.«01_k».proof.Defs
public import proofs.«01_k».proof.Proof.Gen.Kernel
public import proofs.«01_k».proof.Proof.Same
public import proofs.«01_k».proof.Proof.Value
public import proofs.«01_k».proof.Proof.Reference

@[expose] public section

noncomputable section

namespace Cert.Proof

open Idealize.ShloMosaic Idealize.ShloMosaic.TcCoe Idealize.ShloMosaic.ValueIdx Idealize.SL.Sem
open Cert.AllToAll

/-! ## The frames -/

/-- The kernel's, in either reading. -/
theorem frame_both {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run Cert.KernelIdeal.defs _ _).mono (fun _ h => ⟨fun c => (h.1 c).2, h.2⟩) (run_main (F := F) m ρ)

theorem frame_kernel : Cert.quiescent_Kernel := by
  intro m ρ _
  rw [table_same, main_same]
  exact frame_both m ρ

theorem frame_ideal : Cert.quiescent_KernelIdeal := fun m ρ _ => frame_both m ρ

theorem frame_reference : Cert.quiescent_ReferenceIdeal := fun m ρ _ =>
  (θ_run Cert.ReferenceIdeal.defs _ _).mono (fun _ h => ⟨fun c => (h.1 c).2, h.2⟩) (AllToAllRef.run_ref m ρ)

/-! ## The value -/

/-- Device `c`'s result is block `c` of the reference's rows. -/
theorem out_eq (X : Dev Cert.KernelIdeal.nD → Cert.KernelIdeal.S4096x256.Idx → Elt Ideal .f32) (x : Cert.ReferenceIdeal.S4096x4096.Idx → Elt Ideal .f32)
    (hX : ∀ d, X d = Layout.block ⟨2, ![4096, 256]⟩ ⟨2, ![4096, 4096]⟩ 1 16 d x) (w : Cert.ReferenceIdeal.S4096x8192.Idx → Elt Ideal .f32)
    (sx sw : Cert.ReferenceIdeal.S1.Idx → Elt Ideal .f32) (c : Dev Cert.KernelIdeal.nD) :
    outAt (F := Ideal) X w (Cert.KernelIdeal.Gen.k0_pay4 (F := Ideal) (elt1 (F := Ideal) sx) (elt1 (F := Ideal) sw)) c
      = Layout.block ⟨2, ![256, 8192]⟩ ⟨2, ![4096, 8192]⟩ 0 16 c (AllToAllRef.scaled x w sx sw) := by
  funext p
  obtain ⟨i, j, rfl⟩ : ∃ (i : Fin 256) (j : Fin 8192), p = ix2 i j := ⟨p 0, p 1, eq_ix2 p⟩
  have hi : c.val * 256 + i.val < 4096 := by have : c.val < 16 := c.isLt; omega
  have e := AllToAllRef.scaled_apply x w sx sw ⟨c.val * 256 + i.val, hi⟩ j
  refine (outAt_apply X x hX w _ c i j).trans (Eq.trans ?_ (e.symm.trans ?_))
  · unfold Cert.KernelIdeal.Gen.k0_pay4 elt1
    rw [idx1 (Shape.Idx.first Nat.one_pos) (ix1 0)]
    rfl
  · rw [Layout.block_apply]
    refine congrArg (AllToAllRef.scaled x w sx sw) (funext fun a => Fin.ext ?_)
    fin_cases a <;> rfl

theorem value : Cert.algebraic_KernelIdeal_ReferenceIdeal := by
  intro m ρ m' ρ' _ hargs
  refine ⟨AllToAllRef.result m' 0, (θ_run Cert.KernelIdeal.defs _ _).mono (fun r h c => ⟨(h.1 c).1.trans ?_, (h.1 c).2⟩) (run_main (F := Ideal) m ρ),
    (θ_run Cert.ReferenceIdeal.defs _ _).mono (fun r h => h.1 0) (AllToAllRef.run_ref m' ρ')⟩
  have hw : wArg m c = _ := (hargs c).2.1
  have hx : sxArg m c = _ := (hargs c).2.2.1
  have hs : swArg m c = _ := (hargs c).2.2.2
  unfold outArg
  rw [hw, hx, hs]
  exact out_eq (xArg m) _ (fun d => (hargs d).1) _ _ _ c

theorem claim : Cert.Claim := ⟨Cert.Kernel.Gen.facts, Cert.KernelIdeal.Gen.facts, Cert.ReferenceIdeal.Gen.facts,
  frame_kernel, frame_ideal, frame_reference, trivial, value⟩

end Cert.Proof

end
